-- ==== Defs.lean ====
def Pre_Kernel [hPre_atom_ids : Cert.Pre_atom_ids.Facts] (m : (ℓ : Loc Cert.Kernel.nD Cert.Kernel.τ Cert.Kernel.sig) → Buf (Elt Bits) ℓ) : Prop :=
  ∀ c : Dev Cert.Kernel.nD,
    (Cert.Pre_atom_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_atom_ids : Cert.Pre_atom_ids.Facts] (m : (ℓ : Loc Cert.KernelIdeal.nD Cert.KernelIdeal.τ Cert.KernelIdeal.sig) → Buf (Elt Ideal) ℓ) : Prop :=
  ∀ c : Dev Cert.KernelIdeal.nD,
    (Cert.Pre_atom_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_KernelIdeal_sorted_ids [hPre_sorted_ids : Cert.Pre_sorted_ids.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_ids [hPre_sorted_ids : Cert.Pre_sorted_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_atom_ids : Cert.Pre_atom_ids.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_atom_ids : Cert.Pre_atom_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_sorted_ids [hKernelIdeal : Cert.KernelIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_ids m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_sorted_ids [hReferenceIdeal : Cert.ReferenceIdeal.Facts] [hPre_sorted_ids : Cert.Pre_sorted_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_sorted_ids [hKernelIdeal : Cert.KernelIdeal.Facts] [hReferenceIdeal : Cert.ReferenceIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_ids m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_atom_ids : Cert.Pre_atom_ids.Facts) (hPre_sorted_ids : Cert.Pre_sorted_ids.Facts),
    quiescent_Kernel (hKernel := hKernel) (hPre_atom_ids := hPre_atom_ids)
    ∧ quiescent_KernelIdeal (hKernelIdeal := hKernelIdeal) (hPre_atom_ids := hPre_atom_ids)
    ∧ quiescent_KernelIdeal_pre_sorted_ids (hKernelIdeal := hKernelIdeal) (hPre_sorted_ids := hPre_sorted_ids)
    ∧ quiescent_ReferenceIdeal (hReferenceIdeal := hReferenceIdeal)
    ∧ quiescent_ReferenceIdeal_pre_sorted_ids (hReferenceIdeal := hReferenceIdeal) (hPre_sorted_ids := hPre_sorted_ids)
    ∧ preserves_Kernel_KernelIdeal
    ∧ algebraic_KernelIdeal_ReferenceIdeal_pre_sorted_ids (hKernelIdeal := hKernelIdeal) (hReferenceIdeal := hReferenceIdeal) (hPre_sorted_ids := hPre_sorted_ids)
-- ==== Pre_atom_ids.lean ====
abbrev S10000x128 : Shape := ⟨2, ![10000, 128]⟩
abbrev S320000x128 : Shape := ⟨2, ![320000, 128]⟩
abbrev S320000x16 : Shape := ⟨2, ![320000, 16]⟩
abbrev S320000 : Shape := ⟨1, ![320000]⟩
abbrev S16x128 : Shape := ⟨2, ![16, 128]⟩
abbrev S128x128 : Shape := ⟨2, ![128, 128]⟩
abbrev S_ : Shape := ⟨0, ![]⟩

class Facts : Prop where
  bcast_S_S320000 : S_.BroadcastsInDim S320000 (![] : Fin 0 → Fin S320000.rank)
  reducesTo_S320000_S_d0 : S320000.ReducesTo [0] S_
  h_S_ : 0 < S_.numel

variable [Facts]

def fn {F : FTy → Type} [FloatOps F] (main_arg0 : FVec F S10000x128 .f32) (main_arg1 : FVec F S320000x128 .f32) (main_arg2 : FVec F S320000x16 .f32) (main_arg3 : IVec S320000 32) (main_arg4 : FVec F S16x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S_ .f32) : IVec S_ 1 :=
  let main_c : IVec S_ 32 := constantI S_ 32 0#32
  let main_v0 : IVec S320000 32 := broadcastInDim S320000 ![] bcast_S_S320000 main_c
  let main_v1 : IVec S320000 1 := cmpi .sge main_arg3 main_v0
  let main_c_0 : IVec S_ 1 := constantI S_ 1 1#1
  let main_v2 : IVec S_ 1 := (fun x v => Host.reduce IntOp.andi x v reducesTo_S320000_S_d0 h_S_) main_v1 main_c_0
  let main_c_1 : IVec S_ 32 := constantI S_ 32 10000#32
  let main_v3 : IVec S320000 32 := broadcastInDim S320000 ![] bcast_S_S320000 main_c_1
  let main_v4 : IVec S320000 1 := cmpi .slt main_arg3 main_v3
  let main_c_2 : IVec S_ 1 := constantI S_ 1 1#1
  let main_v5 : IVec S_ 1 := (fun x v => Host.reduce IntOp.andi x v reducesTo_S320000_S_d0 h_S_) main_v4 main_c_2
  let main_v6 : IVec S_ 1 := andi main_v2 main_v5
  main_v6
-- ==== Pre_sorted_ids.lean ====
abbrev S10000x128 : Shape := ⟨2, ![10000, 128]⟩
abbrev S320000x128 : Shape := ⟨2, ![320000, 128]⟩
abbrev S320000x16 : Shape := ⟨2, ![320000, 16]⟩
abbrev S320000 : Shape := ⟨1, ![320000]⟩
abbrev S16x128 : Shape := ⟨2, ![16, 128]⟩
abbrev S128x128 : Shape := ⟨2, ![128, 128]⟩
abbrev S_ : Shape := ⟨0, ![]⟩
abbrev S319999 : Shape := ⟨1, ![319999]⟩

class Facts : Prop where
  bcast_S_S320000 : S_.BroadcastsInDim S320000 (![] : Fin 0 → Fin S320000.rank)
  reducesTo_S320000_S_d0 : S320000.ReducesTo [0] S_
  h_S_ : 0 < S_.numel
  slices_S320000_S319999_1 : S320000.Slices ![1] S319999
  slices_S320000_S319999_0 : S320000.Slices ![0] S319999
  reducesTo_S319999_S_d0 : S319999.ReducesTo [0] S_

variable [Facts]

def fn {F : FTy → Type} [FloatOps F] (main_arg0 : FVec F S10000x128 .f32) (main_arg1 : FVec F S320000x128 .f32) (main_arg2 : FVec F S320000x16 .f32) (main_arg3 : IVec S320000 32) (main_arg4 : FVec F S16x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S_ .f32) : IVec S_ 1 :=
  let main_c : IVec S_ 32 := constantI S_ 32 0#32
  let main_v0 : IVec S320000 32 := broadcastInDim S320000 ![] bcast_S_S320000 main_c
  let main_v1 : IVec S320000 1 := cmpi .sge main_arg3 main_v0
  let main_c_0 : IVec S_ 1 := constantI S_ 1 1#1
  let main_v2 : IVec S_ 1 := (fun x v => Host.reduce IntOp.andi x v reducesTo_S320000_S_d0 h_S_) main_v1 main_c_0
  let main_c_1 : IVec S_ 32 := constantI S_ 32 10000#32
  let main_v3 : IVec S320000 32 := broadcastInDim S320000 ![] bcast_S_S320000 main_c_1
  let main_v4 : IVec S320000 1 := cmpi .slt main_arg3 main_v3
  let main_c_2 : IVec S_ 1 := constantI S_ 1 1#1
  let main_v5 : IVec S_ 1 := (fun x v => Host.reduce IntOp.andi x v reducesTo_S320000_S_d0 h_S_) main_v4 main_c_2
  let main_v6 : IVec S_ 1 := andi main_v2 main_v5
  let main_v7 : IVec S319999 32 := (extractStridedSlice S319999 ![1] · slices_S320000_S319999_1) main_arg3
  let main_v8 : IVec S319999 32 := (extractStridedSlice S319999 ![0] · slices_S320000_S319999_0) main_arg3
  let main_v9 : IVec S319999 1 := cmpi .sge main_v7 main_v8
  let main_c_3 : IVec S_ 1 := constantI S_ 1 1#1
  let main_v10 : IVec S_ 1 := (fun x v => Host.reduce IntOp.andi x v reducesTo_S319999_S_d0 h_S_) main_v9 main_c_3
  let main_v11 : IVec S_ 1 := andi main_v6 main_v10
  main_v11
-- ==== Kernel.lean ====
abbrev S10000x128 : Shape := ⟨2, ![10000, 128]⟩
abbrev S320000x128 : Shape := ⟨2, ![320000, 128]⟩
abbrev S320000x16 : Shape := ⟨2, ![320000, 16]⟩
abbrev S320000 : Shape := ⟨1, ![320000]⟩
abbrev S16x128 : Shape := ⟨2, ![16, 128]⟩
abbrev S128x128 : Shape := ⟨2, ![128, 128]⟩
abbrev S_ : Shape := ⟨0, ![]⟩
abbrev S125x2560x1 : Shape := ⟨3, ![125, 2560, 1]⟩
abbrev S1x320000 : Shape := ⟨2, ![1, 320000]⟩
abbrev S79 : Shape := ⟨1, ![79]⟩
abbrev S79x1 : Shape := ⟨2, ![79, 1]⟩
abbrev S79x320000 : Shape := ⟨2, ![79, 320000]⟩
abbrev S125 : Shape := ⟨1, ![125]⟩
abbrev S204 : Shape := ⟨1, ![204]⟩
abbrev S1 : Shape := ⟨1, ![1]⟩
abbrev S203 : Shape := ⟨1, ![203]⟩
abbrev S204x1 : Shape := ⟨2, ![204, 1]⟩
abbrev S4x51 : Shape := ⟨2, ![4, 51]⟩
abbrev S10112x128 : Shape := ⟨2, ![10112, 128]⟩
abbrev S1x2560x1 : Shape := ⟨3, ![1, 2560, 1]⟩
abbrev S1x1 : Shape := ⟨2, ![1, 1]⟩
abbrev S2560x16 : Shape := ⟨2, ![2560, 16]⟩
abbrev S2560x128 : Shape := ⟨2, ![2560, 128]⟩
abbrev S2560x1 : Shape := ⟨2, ![2560, 1]⟩
abbrev S1264x128 : Shape := ⟨2, ![1264, 128]⟩

abbrev nBuf : Space → Nat
  | .hbm => 94
  | .vmem => 35
  | .smem => 3
  | _ => 0

abbrev bufTy : (tb : Table) → Fin (tcTables nBuf tb) → BufTy
  | .hbm, ⟨0, _⟩ => ⟨S10000x128, .f32⟩
  | .hbm, ⟨1, _⟩ => ⟨S320000x128, .f32⟩
  | .hbm, ⟨2, _⟩ => ⟨S320000x16, .f32⟩
  | .hbm, ⟨3, _⟩ => ⟨S320000, .i32⟩
  | .hbm, ⟨4, _⟩ => ⟨S16x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S_, .f32⟩
  | .hbm, ⟨11, _⟩ => ⟨S125x2560x1, .i32⟩
  | .hbm, ⟨12, _⟩ => ⟨S1x320000, .i32⟩
  | .hbm, ⟨13, _⟩ => ⟨S79, .i32⟩
  | .hbm, ⟨14, _⟩ => ⟨S_, .i32⟩
  | .hbm, ⟨15, _⟩ => ⟨S79, .i32⟩
  | .hbm, ⟨16, _⟩ => ⟨S79, .i32⟩
  | .hbm, ⟨17, _⟩ => ⟨S79x1, .i32⟩
  | .hbm, ⟨18, _⟩ => ⟨S79x320000, .i32⟩
  | .hbm, ⟨19, _⟩ => ⟨S79x320000, .i32⟩
  | .hbm, ⟨20, _⟩ => ⟨S79x320000, .i1⟩
  | .hbm, ⟨21, _⟩ => ⟨S79x320000, .i32⟩
  | .hbm, ⟨22, _⟩ => ⟨S_, .i32⟩
  | .hbm, ⟨23, _⟩ => ⟨S79, .i32⟩
  | .hbm, ⟨24, _⟩ => ⟨S125, .i32⟩
  | .hbm, ⟨25, _⟩ => ⟨S_, .i32⟩
  | .hbm, ⟨26, _⟩ => ⟨S125, .i32⟩
  | .hbm, ⟨27, _⟩ => ⟨S125, .i32⟩
  | .hbm, ⟨28, _⟩ => ⟨S204, .i32⟩
  | .hbm, ⟨29, _⟩ => ⟨S204, .i32⟩
  | .hbm, ⟨30, _⟩ => ⟨S_, .i1⟩
  | .hbm, ⟨31, _⟩ => ⟨S1, .i1⟩
  | .hbm, ⟨32, _⟩ => ⟨S203, .i32⟩
  | .hbm, ⟨33, _⟩ => ⟨S203, .i32⟩
  | .hbm, ⟨34, _⟩ => ⟨S203, .i1⟩
  | .hbm, ⟨35, _⟩ => ⟨S204, .i1⟩
  | .hbm, ⟨36, _⟩ => ⟨S_, .i32⟩
  | .hbm, ⟨37, _⟩ => ⟨S204, .i32⟩
  | .hbm, ⟨38, _⟩ => ⟨S204, .i1⟩
  | .hbm, ⟨39, _⟩ => ⟨S204, .i1⟩
  | .hbm, ⟨40, _⟩ => ⟨S204, .i32⟩
  | .hbm, ⟨41, _⟩ => ⟨S_, .i32⟩
  | .hbm, ⟨42, _⟩ => ⟨S204, .i32⟩
  | .hbm, ⟨43, _⟩ => ⟨S204, .i32⟩
  | .hbm, ⟨44, _⟩ => ⟨S_, .i32⟩
  | .hbm, ⟨45, _⟩ => ⟨S_, .i32⟩
  | .hbm, ⟨46, _⟩ => ⟨S204, .i32⟩
  | .hbm, ⟨47, _⟩ => ⟨S204, .i32⟩
  | .hbm, ⟨48, _⟩ => ⟨S204, .i32⟩
  | .hbm, ⟨49, _⟩ => ⟨S_, .i32⟩
  | .hbm, ⟨50, _⟩ => ⟨S204, .i32⟩
  | .hbm, ⟨51, _⟩ => ⟨S204, .i1⟩
  | .hbm, ⟨52, _⟩ => ⟨S204, .i32⟩
  | .hbm, ⟨53, _⟩ => ⟨S204, .i32⟩
  | .hbm, ⟨54, _⟩ => ⟨S_, .i32⟩
  | .hbm, ⟨55, _⟩ => ⟨S204, .i32⟩
  | .hbm, ⟨56, _⟩ => ⟨S204, .i1⟩
  | .hbm, ⟨57, _⟩ => ⟨S204, .i1⟩
  | .hbm, ⟨58, _⟩ => ⟨S_, .i32⟩
  | .hbm, ⟨59, _⟩ => ⟨S204, .i32⟩
  | .hbm, ⟨60, _⟩ => ⟨S204, .i32⟩
  | .hbm, ⟨61, _⟩ => ⟨S204, .i32⟩
  | .hbm, ⟨62, _⟩ => ⟨S_, .i32⟩
  | .hbm, ⟨63, _⟩ => ⟨S204, .i32⟩
  | .hbm, ⟨64, _⟩ => ⟨S204, .i1⟩
  | .hbm, ⟨65, _⟩ => ⟨S_, .i32⟩
  | .hbm, ⟨66, _⟩ => ⟨S204, .i32⟩
  | .hbm, ⟨67, _⟩ => ⟨S204, .i32⟩
  | .hbm, ⟨68, _⟩ => ⟨S204, .i32⟩
  | .hbm, ⟨69, _⟩ => ⟨S204x1, .i32⟩
  | .hbm, ⟨70, _⟩ => ⟨S204, .i32⟩
  | .hbm, ⟨71, _⟩ => ⟨S_, .i32⟩
  | .hbm, ⟨72, _⟩ => ⟨S_, .i32⟩
  | .hbm, ⟨73, _⟩ => ⟨S204, .i32⟩
  | .hbm, ⟨74, _⟩ => ⟨S204, .i32⟩
  | .hbm, ⟨75, _⟩ => ⟨S204, .i32⟩
  | .hbm, ⟨76, _⟩ => ⟨S_, .i32⟩
  | .hbm, ⟨77, _⟩ => ⟨S204, .i32⟩
  | .hbm, ⟨78, _⟩ => ⟨S204, .i1⟩
  | .hbm, ⟨79, _⟩ => ⟨S204, .i32⟩
  | .hbm, ⟨80, _⟩ => ⟨S204, .i32⟩
  | .hbm, ⟨81, _⟩ => ⟨S_, .i32⟩
  | .hbm, ⟨82, _⟩ => ⟨S204, .i32⟩
  | .hbm, ⟨83, _⟩ => ⟨S204, .i1⟩
  | .hbm, ⟨84, _⟩ => ⟨S204, .i1⟩
  | .hbm, ⟨85, _⟩ => ⟨S_, .i32⟩
  | .hbm, ⟨86, _⟩ => ⟨S204, .i32⟩
  | .hbm, ⟨87, _⟩ => ⟨S204, .i32⟩
  | .hbm, ⟨88, _⟩ => ⟨S204, .i32⟩
  | .hbm, ⟨89, _⟩ => ⟨S10112x128, .f32⟩
  | .hbm, ⟨90, _⟩ => ⟨S128x128, .f32⟩
  | .hbm, ⟨91, _⟩ => ⟨S128x128, .f32⟩
  | .hbm, ⟨92, _⟩ => ⟨S10112x128, .f32⟩
  | .hbm, ⟨93, _⟩ => ⟨S10000x128, .f32⟩
  | .local _ .vmem, ⟨0, _⟩ => ⟨S1x2560x1, .i32⟩
  | .local _ .vmem, ⟨1, _⟩ => ⟨S1x2560x1, .i32⟩
  | .local _ .vmem, ⟨2, _⟩ => ⟨S1x2560x1, .i32⟩
  | .local _ .vmem, ⟨3, _⟩ => ⟨S1x2560x1, .i32⟩
  | .local _ .vmem, ⟨4, _⟩ => ⟨S1x2560x1, .i32⟩
  | .local _ .vmem, ⟨5, _⟩ => ⟨S1x2560x1, .i32⟩
  | .local _ .vmem, ⟨6, _⟩ => ⟨S1x2560x1, .i32⟩
  | .local _ .vmem, ⟨7, _⟩ => ⟨S1x2560x1, .i32⟩
  | .local _ .vmem, ⟨8, _⟩ => ⟨S2560x16, .f32⟩
  | .local _ .vmem, ⟨9, _⟩ => ⟨S2560x16, .f32⟩
  | .local _ .vmem, ⟨10, _⟩ => ⟨S2560x16, .f32⟩
  | .local _ .vmem, ⟨11, _⟩ => ⟨S2560x16, .f32⟩
  | .local _ .vmem, ⟨12, _⟩ => ⟨S2560x16, .f32⟩
  | .local _ .vmem, ⟨13, _⟩ => ⟨S2560x16, .f32⟩
  | .local _ .vmem, ⟨14, _⟩ => ⟨S2560x16, .f32⟩
  | .local _ .vmem, ⟨15, _⟩ => ⟨S2560x16, .f32⟩
  | .local _ .vmem, ⟨16, _⟩ => ⟨S2560x128, .f32⟩
  | .local _ .vmem, ⟨17, _⟩ => ⟨S2560x128, .f32⟩
  | .local _ .vmem, ⟨18, _⟩ => ⟨S2560x128, .f32⟩
  | .local _ .vmem, ⟨19, _⟩ => ⟨S2560x128, .f32⟩
  | .local _ .vmem, ⟨20, _⟩ => ⟨S2560x128, .f32⟩
  | .local _ .vmem, ⟨21, _⟩ => ⟨S2560x128, .f32⟩
  | .local _ .vmem, ⟨22, _⟩ => ⟨S2560x128, .f32⟩
  | .local _ .vmem, ⟨23, _⟩ => ⟨S2560x128, .f32⟩
  | .local _ .vmem, ⟨24, _⟩ => ⟨S16x128, .f32⟩
  | .local _ .vmem, ⟨25, _⟩ => ⟨S10112x128, .f32⟩
  | .local _ .vmem, ⟨26, _⟩ => ⟨S1264x128, .f32⟩
  | .local _ .vmem, ⟨27, _⟩ => ⟨S1264x128, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S1264x128, .f32⟩
  | .local _ .vmem, ⟨34, _⟩ => ⟨S1264x128, .f32⟩
  | .local _ .smem, ⟨0, _⟩ => ⟨S4x51, .i32⟩
  | .local _ .smem, ⟨1, _⟩ => ⟨S4x51, .i32⟩
  | .local _ .smem, ⟨2, _⟩ => ⟨S4x51, .i32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v27 : Ref sig .tc := ⟨.hbm, 61, rfl⟩
abbrev main_c_6 : Ref sig .tc := ⟨.hbm, 62, rfl⟩
abbrev main_v28 : Ref sig .tc := ⟨.hbm, 63, rfl⟩
abbrev main_v29 : Ref sig .tc := ⟨.hbm, 64, rfl⟩
abbrev main_c_7 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_c_8 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_c : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_0 : Ref sig .tc := ⟨.hbm, 85, rfl⟩
abbrev main_call2_v12 : Ref sig .tc := ⟨.hbm, 86, rfl⟩
abbrev main_call2_v13 : Ref sig .tc := ⟨.hbm, 87, rfl⟩
abbrev main_v35 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v36 : Ref sig .tc := ⟨.smem, 0, rfl⟩
abbrev main_v37 : Ref sig .tc := ⟨.smem, 1, rfl⟩
abbrev main_v38 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg2_0 : Ref sig .tc := ⟨.vmem, 29, rfl⟩
abbrev cc1_stg3_0 : Ref sig .tc := ⟨.vmem, 30, rfl⟩
abbrev cc1_stg4_0 : Ref sig .tc := ⟨.vmem, 31, rfl⟩
abbrev cc1_stg5_0 : Ref sig .tc := ⟨.vmem, 32, rfl⟩
abbrev cc1_stg6_0 : Ref sig .tc := ⟨.vmem, 33, rfl⟩
abbrev cc1_stg6_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc1_sem0_0 : DmaSem sig := 26
abbrev cc1_sem0_1 : DmaSem sig := 27
abbrev cc1_sem1_0 : DmaSem sig := 28
abbrev cc1_sem2_0 : DmaSem sig := 29
abbrev cc1_sem3_0 : DmaSem sig := 30
abbrev cc1_sem4_0 : DmaSem sig := 31
abbrev cc1_sem5_0 : DmaSem sig := 32
abbrev cc1_sem6_0 : DmaSem sig := 33
abbrev cc1_sem6_1 : DmaSem sig := 34

abbrev nD : Nat := 1
abbrev τ : Topo := Topo.v7x

variable {F : FTy → Type} [FloatOps F]

abbrev grid0 : Pipeline.Grid := ⟨1, ![51], ![false]⟩

abbrev pre0 : Pipeline.Prefetch sig := ⟨3, ![main_v36.idx, main_v37.idx, main_v38.idx], fun | 0 => main_v36.names | 1 => main_v37.names | 2 => main_v38.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c1 : Index := 1#32
  let arg0 : BitVec 32 := BitVec.ofNat 32 (i 0).val
  let v0 : Index := Scalar.indexCast arg0
  ![1, v0.toNat]
def k0_off3 (i : grid0.Coords) : Fin 2 → Nat :=
  let c2 : Index := 2#32
  let arg0 : BitVec 32 := BitVec.ofNat 32 (i 0).val
  let v0 : Index := Scalar.indexCast arg0
  ![2, v0.toNat]
def k0_off4 (i : grid0.Coords) : Fin 2 → Nat :=
  let c3 : Index := 3#32
  let arg0 : BitVec 32 := BitVec.ofNat 32 (i 0).val
  let v0 : Index := Scalar.indexCast arg0
  ![3, v0.toNat]
def k0_off5 (i : grid0.Coords) : Fin 2 → Nat :=
  let c0_14 : Index := 0#32
  let arg0 : BitVec 32 := BitVec.ofNat 32 (i 0).val
  let v30 : Index := Scalar.indexCast arg0
  ![0, v30.toNat]
def k0_off6 (v31 : BitVec 32) : Fin 2 → Nat :=
  let c128_i32_21 : BitVec 32 := 128#32
  let v44 : BitVec 32 := Scalar.muli v31 c128_i32_21
  let v45 : Index := Scalar.indexCast v44
  let c0_22 : Index := 0#32
  ![v45.toNat, 0]
def k0_cond2 (v5 : BitVec 32) : BitVec 1 :=
  let c1_i32 : BitVec 32 := 1#32
  let v6 : BitVec 1 := Scalar.cmpi .eq v5 c1_i32
  let v7 : BitVec 32 := Scalar.extui v6
  let c0_i32_1 : BitVec 32 := 0#32
  let v8 : BitVec 1 := Scalar.cmpi .ne v7 c0_i32_1
  v8

def k0_chk1 (v5 : BitVec 32) (v31 : BitVec 32) : Prop :=
  (∀ (k0_h2 : k0_cond2 v5 = 1#1), ∀ a, (k0_off6 v31) a + S128x128.size a ≤ S10112x128.size a)
theorem k0_off6_inb : ∀ (v5 : BitVec 32) (v31 : BitVec 32) (k0_hw1 : k0_chk1 v5 v31), ∀ (k0_h2 : k0_cond2 v5 = 1#1), ∀ a, (k0_off6 v31) a + S128x128.size a ≤ S10112x128.size a := fun v5 v31 k0_hw1 k0_h2 => k0_hw1 k0_h2

def k0_off7 (i : grid0.Coords) : Fin 2 → Nat :=
  let c1 : Index := 1#32
  let arg0 : BitVec 32 := BitVec.ofNat 32 (i 0).val
  let v9 : Index := Scalar.indexCast arg0
  ![1, v9.toNat]
def k0_off8 (i : grid0.Coords) : Fin 2 → Nat :=
  let c1_14 : Index := 1#32
  let arg0 : BitVec 32 := BitVec.ofNat 32 (i 0).val
  let v30 : Index := Scalar.indexCast arg0
  ![1, v30.toNat]
def k0_off9 (v31 : BitVec 32) : Fin 2 → Nat :=
  let c128_i32_21 : BitVec 32 := 128#32
  let v44 : BitVec 32 := Scalar.muli v31 c128_i32_21
  let v45 : Index := Scalar.indexCast v44
  let c0_22 : Index := 0#32
  ![v45.toNat, 0]
def k0_cond3 (v10 : BitVec 32) : BitVec 1 :=
  let c1_i32_2 : BitVec 32 := 1#32
  let v11 : BitVec 1 := Scalar.cmpi .eq v10 c1_i32_2
  let v12 : BitVec 32 := Scalar.extui v11
  let c0_i32_3 : BitVec 32 := 0#32
  let v13 : BitVec 1 := Scalar.cmpi .ne v12 c0_i32_3
  v13

def k0_chk2 (v10 : BitVec 32) (v31 : BitVec 32) : Prop :=
  (∀ (k0_h3 : k0_cond3 v10 = 1#1), ∀ a, (k0_off9 v31) a + S128x128.size a ≤ S10112x128.size a)
theorem k0_off9_inb : ∀ (v10 : BitVec 32) (v31 : BitVec 32) (k0_hw2 : k0_chk2 v10 v31), ∀ (k0_h3 : k0_cond3 v10 = 1#1), ∀ a, (k0_off9 v31) a + S128x128.size a ≤ S10112x128.size a := fun v10 v31 k0_hw2 k0_h3 => k0_hw2 k0_h3

def k0_off10 (i : grid0.Coords) : Fin 2 → Nat :=
  let c2 : Index := 2#32
  let arg0 : BitVec 32 := BitVec.ofNat 32 (i 0).val
  let v14 : Index := Scalar.indexCast arg0
  ![2, v14.toNat]
def k0_off11 (i : grid0.Coords) : Fin 2 → Nat :=
  let c2_14 : Index := 2#32
  let arg0 : BitVec 32 := BitVec.ofNat 32 (i 0).val
  let v30 : Index := Scalar.indexCast arg0
  ![2, v30.toNat]
def k0_off12 (v31 : BitVec 32) : Fin 2 → Nat :=
  let c128_i32_21 : BitVec 32 := 128#32
  let v44 : BitVec 32 := Scalar.muli v31 c128_i32_21
  let v45 : Index := Scalar.indexCast v44
  let c0_22 : Index := 0#32
  ![v45.toNat, 0]
def k0_cond4 (v15 : BitVec 32) : BitVec 1 :=
  let c1_i32_4 : BitVec 32 := 1#32
  let v16 : BitVec 1 := Scalar.cmpi .eq v15 c1_i32_4
  let v17 : BitVec 32 := Scalar.extui v16
  let c0_i32_5 : BitVec 32 := 0#32
  let v18 : BitVec 1 := Scalar.cmpi .ne v17 c0_i32_5
  v18

def k0_chk3 (v15 : BitVec 32) (v31 : BitVec 32) : Prop :=
  (∀ (k0_h4 : k0_cond4 v15 = 1#1), ∀ a, (k0_off12 v31) a + S128x128.size a ≤ S10112x128.size a)
theorem k0_off12_inb : ∀ (v15 : BitVec 32) (v31 : BitVec 32) (k0_hw3 : k0_chk3 v15 v31), ∀ (k0_h4 : k0_cond4 v15 = 1#1), ∀ a, (k0_off12 v31) a + S128x128.size a ≤ S10112x128.size a := fun v15 v31 k0_hw3 k0_h4 => k0_hw3 k0_h4

def k0_off13 (i : grid0.Coords) : Fin 2 → Nat :=
  let c3 : Index := 3#32
  let arg0 : BitVec 32 := BitVec.ofNat 32 (i 0).val
  let v19 : Index := Scalar.indexCast arg0
  ![3, v19.toNat]
def k0_off14 (i : grid0.Coords) : Fin 2 → Nat :=
  let c3_14 : Index := 3#32
  let arg0 : BitVec 32 := BitVec.ofNat 32 (i 0).val
  let v30 : Index := Scalar.indexCast arg0
  ![3, v30.toNat]
def k0_off15 (v31 : BitVec 32) : Fin 2 → Nat :=
  let c128_i32_21 : BitVec 32 := 128#32
  let v44 : BitVec 32 := Scalar.muli v31 c128_i32_21
  let v45 : Index := Scalar.indexCast v44
  let c0_22 : Index := 0#32
  ![v45.toNat, 0]
def k0_cond5 (v20 : BitVec 32) : BitVec 1 :=
  let c1_i32_6 : BitVec 32 := 1#32
  let v21 : BitVec 1 := Scalar.cmpi .eq v20 c1_i32_6
  let v22 : BitVec 32 := Scalar.extui v21
  let c0_i32_7 : BitVec 32 := 0#32
  let v23 : BitVec 1 := Scalar.cmpi .ne v22 c0_i32_7
  v23

def k0_chk4 (v20 : BitVec 32) (v31 : BitVec 32) : Prop :=
  (∀ (k0_h5 : k0_cond5 v20 = 1#1), ∀ a, (k0_off15 v31) a + S128x128.size a ≤ S10112x128.size a)
theorem k0_off15_inb : ∀ (v20 : BitVec 32) (v31 : BitVec 32) (k0_hw4 : k0_chk4 v20 v31), ∀ (k0_h5 : k0_cond5 v20 = 1#1), ∀ a, (k0_off15 v31) a + S128x128.size a ≤ S10112x128.size a := fun v20 v31 k0_hw4 k0_h5 => k0_hw4 k0_h5

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (k0_off1_inb : ∀ i : grid0.Coords, ∀ a, (k0_off1 i) a + S1x1.size a ≤ S4x51.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S4x51) ![0, v0.toNat] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_1 (k0_off2_inb : ∀ i : grid0.Coords, ∀ a, (k0_off2 i) a + S1x1.size a ≤ S4x51.size a) (numel1_S1x1 : S1x1.numel = 1) (pf : pre0.Contents (Elt F)) (i : grid0.Coords) : Fin 3 → Nat :=
  let arg0 : BitVec 32 := BitVec.ofNat 32 (i 0).val
  let c1 : Index := 1#32
  let v0 : Index := Scalar.indexCast arg0
  let v1 : BitVec 32 := pf.at 0 (Rect.unit (s := S4x51) ![1, v0.toNat] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_2 (k0_off3_inb : ∀ i : grid0.Coords, ∀ a, (k0_off3 i) a + S1x1.size a ≤ S4x51.size a) (numel1_S1x1 : S1x1.numel = 1) (pf : pre0.Contents (Elt F)) (i : grid0.Coords) : Fin 3 → Nat :=
  let arg0 : BitVec 32 := BitVec.ofNat 32 (i 0).val
  let c2 : Index := 2#32
  let v0 : Index := Scalar.indexCast arg0
  let v1 : BitVec 32 := pf.at 0 (Rect.unit (s := S4x51) ![2, v0.toNat] S1x1.size (k0_off3_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_3 (k0_off4_inb : ∀ i : grid0.Coords, ∀ a, (k0_off4 i) a + S1x1.size a ≤ S4x51.size a) (numel1_S1x1 : S1x1.numel = 1) (pf : pre0.Contents (Elt F)) (i : grid0.Coords) : Fin 3 → Nat :=
  let arg0 : BitVec 32 := BitVec.ofNat 32 (i 0).val
  let c3 : Index := 3#32
  let v0 : Index := Scalar.indexCast arg0
  let v1 : BitVec 32 := pf.at 0 (Rect.unit (s := S4x51) ![3, v0.toNat] S1x1.size (k0_off4_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1x1.size a ≤ S4x51.size a) (numel1_S1x1 : S1x1.numel = 1) (pf : pre0.Contents (Elt F)) (i : grid0.Coords) : Fin 2 → Nat :=
  let arg0 : BitVec 32 := BitVec.ofNat 32 (i 0).val
  let c0 : Index := 0#32
  let v0 : Index := Scalar.indexCast arg0
  let v1 : BitVec 32 := pf.at 0 (Rect.unit (s := S4x51) ![0, v0.toNat] S1x1.size (k0_off1_inb i)) numel1_S1x1
  let c0_i32 : BitVec 32 := 0#32
  let c0_i32_0 : BitVec 32 := 0#32
  ![v1.toNat, c0_i32.toNat]

def cc0_transform_5 (k0_off2_inb : ∀ i : grid0.Coords, ∀ a, (k0_off2 i) a + S1x1.size a ≤ S4x51.size a) (numel1_S1x1 : S1x1.numel = 1) (pf : pre0.Contents (Elt F)) (i : grid0.Coords) : Fin 2 → Nat :=
  let arg0 : BitVec 32 := BitVec.ofNat 32 (i 0).val
  let c1 : Index := 1#32
  let v0 : Index := Scalar.indexCast arg0
  let v1 : BitVec 32 := pf.at 0 (Rect.unit (s := S4x51) ![1, v0.toNat] S1x1.size (k0_off2_inb i)) numel1_S1x1
  let c0_i32 : BitVec 32 := 0#32
  let c0_i32_0 : BitVec 32 := 0#32
  ![v1.toNat, c0_i32.toNat]

def cc0_transform_6 (k0_off3_inb : ∀ i : grid0.Coords, ∀ a, (k0_off3 i) a + S1x1.size a ≤ S4x51.size a) (numel1_S1x1 : S1x1.numel = 1) (pf : pre0.Contents (Elt F)) (i : grid0.Coords) : Fin 2 → Nat :=
  let arg0 : BitVec 32 := BitVec.ofNat 32 (i 0).val
  let c2 : Index := 2#32
  let v0 : Index := Scalar.indexCast arg0
  let v1 : BitVec 32 := pf.at 0 (Rect.unit (s := S4x51) ![2, v0.toNat] S1x1.size (k0_off3_inb i)) numel1_S1x1
  let c0_i32 : BitVec 32 := 0#32
  let c0_i32_0 : BitVec 32 := 0#32
  ![v1.toNat, c0_i32.toNat]

def cc0_transform_7 (k0_off4_inb : ∀ i : grid0.Coords, ∀ a, (k0_off4 i) a + S1x1.size a ≤ S4x51.size a) (numel1_S1x1 : S1x1.numel = 1) (pf : pre0.Contents (Elt F)) (i : grid0.Coords) : Fin 2 → Nat :=
  let arg0 : BitVec 32 := BitVec.ofNat 32 (i 0).val
  let c3 : Index := 3#32
  let v0 : Index := Scalar.indexCast arg0
  let v1 : BitVec 32 := pf.at 0 (Rect.unit (s := S4x51) ![3, v0.toNat] S1x1.size (k0_off4_inb i)) numel1_S1x1
  let c0_i32 : BitVec 32 := 0#32
  let c0_i32_0 : BitVec 32 := 0#32
  ![v1.toNat, c0_i32.toNat]

def cc0_transform_8 (k0_off1_inb : ∀ i : grid0.Coords, ∀ a, (k0_off1 i) a + S1x1.size a ≤ S4x51.size a) (numel1_S1x1 : S1x1.numel = 1) (pf : pre0.Contents (Elt F)) (i : grid0.Coords) : Fin 2 → Nat :=
  let arg0 : BitVec 32 := BitVec.ofNat 32 (i 0).val
  let c0 : Index := 0#32
  let v0 : Index := Scalar.indexCast arg0
  let v1 : BitVec 32 := pf.at 0 (Rect.unit (s := S4x51) ![0, v0.toNat] S1x1.size (k0_off1_inb i)) numel1_S1x1
  let c0_i32 : BitVec 32 := 0#32
  let c0_i32_0 : BitVec 32 := 0#32
  ![v1.toNat, c0_i32.toNat]

def cc0_transform_9 (k0_off2_inb : ∀ i : grid0.Coords, ∀ a, (k0_off2 i) a + S1x1.size a ≤ S4x51.size a) (numel1_S1x1 : S1x1.numel = 1) (pf : pre0.Contents (Elt F)) (i : grid0.Coords) : Fin 2 → Nat :=
  let arg0 : BitVec 32 := BitVec.ofNat 32 (i 0).val
  let c1 : Index := 1#32
  let v0 : Index := Scalar.indexCast arg0
  let v1 : BitVec 32 := pf.at 0 (Rect.unit (s := S4x51) ![1, v0.toNat] S1x1.size (k0_off2_inb i)) numel1_S1x1
  let c0_i32 : BitVec 32 := 0#32
  let c0_i32_0 : BitVec 32 := 0#32
  ![v1.toNat, c0_i32.toNat]

def cc0_transform_10 (k0_off3_inb : ∀ i : grid0.Coords, ∀ a, (k0_off3 i) a + S1x1.size a ≤ S4x51.size a) (numel1_S1x1 : S1x1.numel = 1) (pf : pre0.Contents (Elt F)) (i : grid0.Coords) : Fin 2 → Nat :=
  let arg0 : BitVec 32 := BitVec.ofNat 32 (i 0).val
  let c2 : Index := 2#32
  let v0 : Index := Scalar.indexCast arg0
  let v1 : BitVec 32 := pf.at 0 (Rect.unit (s := S4x51) ![2, v0.toNat] S1x1.size (k0_off3_inb i)) numel1_S1x1
  let c0_i32 : BitVec 32 := 0#32
  let c0_i32_0 : BitVec 32 := 0#32
  ![v1.toNat, c0_i32.toNat]

def cc0_transform_11 (k0_off4_inb : ∀ i : grid0.Coords, ∀ a, (k0_off4 i) a + S1x1.size a ≤ S4x51.size a) (numel1_S1x1 : S1x1.numel = 1) (pf : pre0.Contents (Elt F)) (i : grid0.Coords) : Fin 2 → Nat :=
  let arg0 : BitVec 32 := BitVec.ofNat 32 (i 0).val
  let c3 : Index := 3#32
  let v0 : Index := Scalar.indexCast arg0
  let v1 : BitVec 32 := pf.at 0 (Rect.unit (s := S4x51) ![3, v0.toNat] S1x1.size (k0_off4_inb i)) numel1_S1x1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2560x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2560x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2560x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2560x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2560x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2560x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2560x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2560x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2560x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2560x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2560x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2560x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S16x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S10112x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1264x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1264x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S10000x128 : Shape := ⟨2, ![10000, 128]⟩
abbrev S320000x128 : Shape := ⟨2, ![320000, 128]⟩
abbrev S320000x16 : Shape := ⟨2, ![320000, 16]⟩
abbrev S320000 : Shape := ⟨1, ![320000]⟩
abbrev S16x128 : Shape := ⟨2, ![16, 128]⟩
abbrev S128x128 : Shape := ⟨2, ![128, 128]⟩
abbrev S_ : Shape := ⟨0, ![]⟩
abbrev S320000x1 : Shape := ⟨2, ![320000, 1]⟩

abbrev nBuf : Space → Nat
  | .hbm => 92
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S320000x128, .f32⟩
  | .hbm, ⟨2, _⟩ => ⟨S320000x16, .f32⟩
  | .hbm, ⟨3, _⟩ => ⟨S320000, .i32⟩
  | .hbm, ⟨4, _⟩ => ⟨S16x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S_, .f32⟩
  | .hbm, ⟨11, _⟩ => ⟨S320000x128, .f32⟩
  | .hbm, ⟨12, _⟩ => ⟨S320000x128, .f32⟩
  | .hbm, ⟨13, _⟩ => ⟨S_, .f32⟩
  | .hbm, ⟨14, _⟩ => ⟨S10000x128, .f32⟩
  | .hbm, ⟨15, _⟩ => ⟨S320000x1, .i32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S10000x128, .f32⟩
  | .hbm, ⟨24, _⟩ => ⟨S10000x128, .f32⟩
  | .hbm, ⟨25, _⟩ => ⟨S_, .f32⟩
  | .hbm, ⟨26, _⟩ => ⟨S10000x128, .f32⟩
  | .hbm, ⟨27, _⟩ => ⟨S10000x128, .f32⟩
  | .hbm, ⟨28, _⟩ => ⟨S10000x128, .f32⟩
  | .hbm, ⟨29, _⟩ => ⟨S_, .f32⟩
  | .hbm, ⟨30, _⟩ => ⟨S10000x128, .f32⟩
  | .hbm, ⟨31, _⟩ => ⟨S10000x128, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S_, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S10000x128, .f32⟩
  | .hbm, ⟨40, _⟩ => ⟨S10000x128, .f32⟩
  | .hbm, ⟨41, _⟩ => ⟨S10000x128, .f32⟩
  | .hbm, ⟨42, _⟩ => ⟨S_, .f32⟩
  | .hbm, ⟨43, _⟩ => ⟨S10000x128, .f32⟩
  | .hbm, ⟨44, _⟩ => ⟨S10000x128, .f32⟩
  | .hbm, ⟨45, _⟩ => ⟨S10000x128, .f32⟩
  | .hbm, ⟨46, _⟩ => ⟨S10000x128, .f32⟩
  | .hbm, ⟨47, _⟩ => ⟨S10000x128, .f32⟩
  | .hbm, ⟨48, _⟩ => ⟨S_, .f32⟩
  | .hbm, ⟨49, _⟩ => ⟨S10000x128, .f32⟩
  | .hbm, ⟨50, _⟩ => ⟨S10000x128, .f32⟩
  | .hbm, ⟨51, _⟩ => ⟨S_, .f32⟩
  | .hbm, ⟨52, _⟩ => ⟨S10000x128, .f32⟩
  | .hbm, ⟨53, _⟩ => ⟨S10000x128, .f32⟩
  | .hbm, ⟨54, _⟩ => ⟨S10000x128, .f32⟩
  | .hbm, ⟨55, _⟩ => ⟨S_, .f32⟩
  | .hbm, ⟨56, _⟩ => ⟨S10000x128, .f32⟩
  | .hbm, ⟨57, _⟩ => ⟨S10000x128, .f32⟩
  | .hbm, ⟨58, _⟩ => ⟨S10000x128, .f32⟩
  | .hbm, ⟨59, _⟩ => ⟨S_, .f32⟩
  | .hbm, ⟨60, _⟩ => ⟨S10000x128, .f32⟩
  | .hbm, ⟨61, _⟩ => ⟨S10000x128, .f32⟩
  | .hbm, ⟨62, _⟩ => ⟨S10000x128, .f32⟩
  | .hbm, ⟨63, _⟩ => ⟨S10000x128, .f32⟩
  | .hbm, ⟨64, _⟩ => ⟨S10000x128, .f32⟩
  | .hbm, ⟨65, _⟩ => ⟨S_, .f32⟩
  | .hbm, ⟨66, _⟩ => ⟨S10000x128, .f32⟩
  | .hbm, ⟨67, _⟩ => ⟨S10000x128, .f32⟩
  | .hbm, ⟨68, _⟩ => ⟨S_, .f32⟩
  | .hbm, ⟨69, _⟩ => ⟨S10000x128, .f32⟩
  | .hbm, ⟨70, _⟩ => ⟨S10000x128, .f32⟩
  | .hbm, ⟨71, _⟩ => ⟨S10000x128, .f32⟩
  | .hbm, ⟨72, _⟩ => ⟨S_, .f32⟩
  | .hbm, ⟨73, _⟩ => ⟨S10000x128, .f32⟩
  | .hbm, ⟨74, _⟩ => ⟨S10000x128, .f32⟩
  | .hbm, ⟨75, _⟩ => ⟨S10000x128, .f32⟩
  | .hbm, ⟨76, _⟩ => ⟨S10000x128, .f32⟩
  | .hbm, ⟨77, _⟩ => ⟨S10000x128, .f32⟩
  | .hbm, ⟨78, _⟩ => ⟨S_, .f32⟩
  | .hbm, ⟨79, _⟩ => ⟨S10000x128, .f32⟩
  | .hbm, ⟨80, _⟩ => ⟨S10000x128, .f32⟩
  | .hbm, ⟨81, _⟩ => ⟨S_, .f32⟩
  | .hbm, ⟨82, _⟩ => ⟨S10000x128, .f32⟩
  | .hbm, ⟨83, _⟩ => ⟨S10000x128, .f32⟩
  | .hbm, ⟨84, _⟩ => ⟨S10000x128, .f32⟩
  | .hbm, ⟨85, _⟩ => ⟨S_, .f32⟩
  | .hbm, ⟨86, _⟩ => ⟨S10000x128, .f32⟩
  | .hbm, ⟨87, _⟩ => ⟨S10000x128, .f32⟩
  | .hbm, ⟨88, _⟩ => ⟨S10000x128, .f32⟩
  | .hbm, ⟨89, _⟩ => ⟨S_, .f32⟩
  | .hbm, ⟨90, _⟩ => ⟨S10000x128, .f32⟩
  | .hbm, ⟨91, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v12 : Ref sig .tc := ⟨.hbm, 41, rfl⟩
abbrev main_cst_1 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_call2_v0 : Ref sig .tc := ⟨.hbm, 46, rfl⟩
abbrev main_call2_v1 : Ref sig .tc := ⟨.hbm, 47, rfl⟩
abbrev main_call2_cst : Ref sig .tc := ⟨.hbm, 48, rfl⟩
abbrev main_call2_v2 : Ref sig .tc := ⟨.hbm, 49, rfl⟩
abbrev main_call2_v3 : Ref sig .tc := ⟨.hbm, 50, rfl⟩
abbrev main_call2_cst_0 : Ref sig .tc := ⟨.hbm, 51, rfl⟩
abbrev main_call2_v4 : Ref sig .tc := ⟨.hbm, 52, rfl⟩
abbrev main_call2_v5 : Ref sig .tc := ⟨.hbm, 53, rfl⟩
abbrev main_v16 : Ref sig .tc := ⟨.hbm, 54, rfl⟩
abbrev main_cst_2 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_cst_3 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_call3_v0 : Ref sig .tc := ⟨.hbm, 63, rfl⟩
abbrev main_call3_v1 : Ref sig .tc := ⟨.hbm, 64, rfl⟩
abbrev main_call3_cst : Ref sig .tc := ⟨.hbm, 65, rfl⟩
abbrev main_call3_v2 : Ref sig .tc := ⟨.hbm, 66, rfl⟩
abbrev main_call3_v3 : Ref sig .tc := ⟨.hbm, 67, rfl⟩
abbrev main_call3_cst_0 : Ref sig .tc := ⟨.hbm, 68, rfl⟩
abbrev main_call3_v4 : Ref sig .tc := ⟨.hbm, 69, rfl⟩
abbrev main_call3_v5 : Ref sig .tc := ⟨.hbm, 70, rfl⟩
abbrev main_v23 : Ref sig .tc := ⟨.hbm, 71, rfl⟩
abbrev main_cst_4 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_call4_v0 : Ref sig .tc := ⟨.hbm, 76, rfl⟩
abbrev main_call4_v1 : Ref sig .tc := ⟨.hbm, 77, rfl⟩
abbrev main_call4_cst : Ref sig .tc := ⟨.hbm, 78, rfl⟩
abbrev main_call4_v2 : Ref sig .tc := ⟨.hbm, 79, rfl⟩
abbrev main_call4_v3 : Ref sig .tc := ⟨.hbm, 80, rfl⟩
abbrev main_call4_cst_0 : Ref sig .tc := ⟨.hbm, 81, rfl⟩
abbrev main_call4_v4 : Ref sig .tc := ⟨.hbm, 82, rfl⟩
abbrev main_call4_v5 : Ref sig .tc := ⟨.hbm, 83, rfl⟩
abbrev main_v27 : Ref sig .tc := ⟨.hbm, 84, rfl⟩
abbrev main_cst_5 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_cst_6 : Ref sig .tc := ⟨.hbm, 89, rfl⟩
abbrev main_v31 : Ref sig .tc := ⟨.hbm, 90, rfl⟩
abbrev main_v32 : Ref sig .tc := ⟨.hbm, 91, rfl⟩

abbrev nD : Nat := 1
abbrev τ : Topo := Topo.v7x

variable {F : FTy → Type} [FloatOps F]
-- ==== Proof.Sched.lean ====
module

public import Mathlib.Data.Nat.Count
public import Mathlib.Order.Monotone.Basic
public import Mathlib.Data.Set.Basic
public import Mathlib.Tactic.IntervalCases

@[expose] public section

/-! The chunk schedule over the naturals. `q e` is the atom of edge `e`, in order. A chunk is a maximal run of
edges inside one block of 2560 edges and one tile of 128 atoms; chunks start at block starts and at tile starts. -/

namespace Cert.Sched

/-- The first edge of tile `j` or later: the number of edges whose atom lies below the tile. -/
def cut (q : ℕ → ℕ) (j : ℕ) : ℕ := Nat.count (fun e => q e < 128 * j) 320000

/-- The chunk starts before sorting: 125 block starts, then 79 tile starts. -/
def key (q : ℕ → ℕ) (r : ℕ) : ℕ := if r < 125 then r * 2560 else cut q (r - 125)

/-- A table `P` of 204 entries lists the chunk starts in order. -/
structure Pts (q P : ℕ → ℕ) : Prop where
  mono : ∀ i j, i ≤ j → j < 204 → P i ≤ P j
  of : ∀ r, r < 204 → ∃ s, s < 204 ∧ P r = key q s
  onto : ∀ s, s < 204 → ∃ r, r < 204 ∧ P r = key q s

/-- Entry `r` starts a chunk: it is the first of its value and an edge. -/
def Valid (P : ℕ → ℕ) (r : ℕ) : Prop := (r = 0 ∨ P r ≠ P (r - 1)) ∧ P r < 320000

/-- Whether an entry starts a chunk is decided by comparing numbers. -/
instance (P : ℕ → ℕ) (r : ℕ) : Decidable (Valid P r) := by unfold Valid; infer_instance

/-- The edge an entry stands for, kept inside the array. -/
def cl (P : ℕ → ℕ) (r : ℕ) : ℕ := min (P r) 319999
/-- The block of edges an entry names. -/
def eb (P : ℕ → ℕ) (r : ℕ) : ℕ := cl P r / 2560
/-- The tile of atoms an entry names. -/
def qt (q P : ℕ → ℕ) (r : ℕ) : ℕ := q (cl P r) / 128

/-- The clamped edge is an edge. -/
theorem cl_lt (P : ℕ → ℕ) (r : ℕ) : cl P r < 320000 := by unfold cl; omega
/-- The named block exists. -/
theorem eb_lt (P : ℕ → ℕ) (r : ℕ) : eb P r < 125 := by have := cl_lt P r; unfold eb; omega
/-- The named tile exists. -/
theorem qt_lt {q P : ℕ → ℕ} (hq : ∀ e, q e < 10000) (r : ℕ) : qt q P r < 79 := by
  have := hq (cl P r); unfold qt; omega

section
variable {q : ℕ → ℕ} (hm : Monotone q)
include hm

/-- In an ordered list, an edge lies before a tile's start exactly when its atom lies below the tile. -/
theorem lt_cut (j e : ℕ) (he : e < 320000) : e < cut q j ↔ q e < 128 * j := by
  unfold cut
  constructor
  · intro h
    by_contra hn
    have h0 : ∀ n, Nat.count (fun e => q e < 128 * j) (e + n) ≤ e := by
      intro n
      induction n with
      | zero => exact Nat.count_le _
      | succ n ih =>
        rw [← Nat.add_assoc, Nat.count_succ, if_neg]
        · simpa using ih
        · have := hm (Nat.le_add_right e n); omega
    have := h0 (320000 - e)
    rw [show e + (320000 - e) = 320000 by omega] at this
    omega
  · intro h
    have h1 : Nat.count (fun e => q e < 128 * j) (e + 1) = e + 1 := by
      refine Nat.count_iff_forall.2 fun n hn => ?_
      have := hm (show n ≤ e by omega); omega
    have := Nat.count_monotone (fun e => q e < 128 * j) (show e + 1 ≤ 320000 by omega)
    omega

/-- No chunk start lies strictly inside a chunk: between a start `w` and an earlier edge the block or the tile changes. -/
theorem key_sep (s u : ℕ) (hs : s < 204) (hu : u < key q s) (hw : key q s < 320000)
    (hb : u / 2560 = key q s / 2560) (ht : q u / 128 = q (key q s) / 128) : False := by
  unfold key at hu hw hb ht
  split at hu
  · rename_i h; simp only [h, if_true] at hw hb; omega
  · rename_i h
    simp only [h, if_false] at hw hb ht
    have h1 := (lt_cut hm (s - 125) u (by omega)).1 hu
    have h2 := mt (lt_cut hm (s - 125) _ hw).2 (lt_irrefl _)
    omega

variable {P : ℕ → ℕ} (hp : Pts q P) (hq : ∀ e, q e < 10000)
include hp hq

/-- Every edge lies in the chunk of some entry. -/
theorem chunk_exists (e : ℕ) (he : e < 320000) :
    ∃ r, r < 204 ∧ Valid P r ∧ eb P r = e / 2560 ∧ qt q P r = q e / 128 := by
  classical
  -- the last entry at or before the edge
  obtain ⟨r0, hr0, e0⟩ := hp.onto (e / 2560) (by omega)
  obtain ⟨r1, hr1, e1⟩ := hp.onto (125 + q e / 128) (by have := hq e; omega)
  have k0 : key q (e / 2560) = e / 2560 * 2560 := by unfold key; rw [if_pos (by omega)]
  have k1 : key q (125 + q e / 128) = cut q (q e / 128) := by
    unfold key; rw [if_neg (by omega), Nat.add_sub_cancel_left]
  rw [k0] at e0
  rw [k1] at e1
  have c1 : cut q (q e / 128) ≤ e := by
    by_contra h
    have := (lt_cut hm (q e / 128) e he).1 (by omega)
    omega
  let m := max (P r0) (P r1)
  have hmax : m ≤ e := by simp only [m]; omega
  have hme : ∃ r, r < 204 ∧ P r = m := by
    rcases le_total (P r0) (P r1) with h | h
    · exact ⟨r1, hr1, by simp only [m]; omega⟩
    · exact ⟨r0, hr0, by simp only [m]; omega⟩
  let r := Nat.find hme
  have hr := Nat.find_spec hme
  have hmin : ∀ i, i < r → ¬ (i < 204 ∧ P i = m) := fun i hi => Nat.find_min hme hi
  change r < 204 ∧ P r = m at hr
  have hcl : cl P r = m := by unfold cl; omega
  refine ⟨r, hr.1, ⟨?_, by omega⟩, ?_, ?_⟩
  · by_cases h : r = 0
    · exact Or.inl h
    · exact Or.inr fun h' => hmin (r - 1) (by omega) ⟨by omega, by omega⟩
  · unfold eb; rw [hcl]; simp only [m] at *; omega
  · unfold qt; rw [hcl]
    have h1 := hm hmax
    have h2 : ¬ q m < 128 * (q e / 128) := by
      intro h
      have := (lt_cut hm (q e / 128) m (by omega)).2 h
      simp only [m] at this; omega
    omega

omit hq in
/-- Two entries that start chunks, of one block and one tile, are the same entry. -/
theorem chunk_unique (r r' : ℕ) (hr : r < 204) (hr' : r' < 204) (hv : Valid P r) (hv' : Valid P r')
    (hb : eb P r = eb P r') (ht : qt q P r = qt q P r') : r = r' := by
  have main : ∀ a b, a < b → b < 204 → Valid P a → Valid P b → eb P a = eb P b → qt q P a = qt q P b → False := by
    intro a b hab hb2 ha hb' he hq'
    have e1 : cl P a = P a := by have := ha.2; unfold cl; omega
    have e2 : cl P b = P b := by have := hb'.2; unfold cl; omega
    unfold eb at he
    unfold qt at hq'
    rw [e1, e2] at he hq'
    have l1 := hp.mono a (b - 1) (by omega) (by omega)
    have l2 := hp.mono (b - 1) b (by omega) hb2
    have hne : P b ≠ P (b - 1) := by
      rcases hb'.1 with h | h
      · omega
      · exact h
    obtain ⟨s, hs, es⟩ := hp.of b hb2
    rw [es] at he hq'
    exact key_sep hm s (P a) hs (by omega) (by have := hb'.2; omega) he hq'
  rcases Nat.lt_trichotomy r r' with h | h | h
  · exact (main r r' h hr' hv hv' hb ht).elim
  · exact h
  · exact (main r' r h hr hv' hv hb.symm ht.symm).elim

end

end Cert.Sched
-- ==== Proof.Words.lean ====
module

public import proofs.«01_k».proof.Proof.Sched
public import Idealize.ShloMosaic.Lib.Routing.Words
public import Idealize.ShloMosaic.Lib.Routing.Ops
public import Idealize.ShloMosaic.Lib.Routing.OpsSearch
public import Idealize.ShloMosaic.Lib.Routing.OpsPair
public import Idealize.ShloMosaic.Lib.SortFacts
public import Idealize.ShloMosaic.Lib.Pipeline.Value

@[expose] public section

/-! The words of the chunk tables: each host operation of the tables at an index, on words of naturals. -/

noncomputable section

namespace Cert.Words

open Idealize.ShloMosaic Idealize.ShloMosaic.ValueIdx Idealize.ShloMosaic.WordCmp
open Idealize.ShloMosaic.Routing (shape0 shape1 shape2 ofFin_eq_ix1 slt_ofNat32 reduce_count bc0 bcCol bcRows bcCols slice1 muli_ap iota1_ap take_ap wrap_of_lt setWidth_ofBool)
open Cert.Sched

/-- The atom ids are words of naturals below 10000. -/
structure Rng (ids : IVec (shape1 320000) 32) (q : ℕ → ℕ) : Prop where
  word : ∀ e : Fin 320000, ids (ix1 e) = BitVec.ofNat 32 (q e.val)
  lt : ∀ e, q e < 10000

/-- The atom ids are words of naturals below 10000, in order. -/
structure Ids (ids : IVec (shape1 320000) 32) (q : ℕ → ℕ) : Prop extends Rng ids q where
  mono : Monotone q

/-- The sums of comparisons count the edges below each tile. -/
theorem starts_ap {ids : IVec (shape1 320000) 32} {q : ℕ → ℕ} (hi : Rng ids q)
    (h1 : (shape1 320000).BroadcastsInDim (shape2 1 320000) (![1] : Fin 1 → Fin (shape2 1 320000).rank))
    (h2 : (shape2 1 320000).BroadcastsInDim (shape2 79 320000) (![0, 1] : Fin 2 → Fin (shape2 79 320000).rank))
    (h3 : (shape1 79).BroadcastsInDim (shape2 79 1) (![0] : Fin 1 → Fin (shape2 79 1).rank))
    (h4 : (shape2 79 1).BroadcastsInDim (shape2 79 320000) (![0, 1] : Fin 2 → Fin (shape2 79 320000).rank))
    (h5 : shape0.BroadcastsInDim (shape1 79) (![] : Fin 0 → Fin (shape1 79).rank))
    (hw : 1 < 32) (h : (shape2 79 320000).ReducesTo [1] (shape1 79)) (hu : 0 < shape0.numel) (j : Fin 79) :
    Host.reduce IntOp.addi (extui 32 (cmpi .slt
        (broadcastInDim (shape2 79 320000) ![0, 1] h2 (broadcastInDim (shape2 1 320000) ![1] h1 ids))
        (broadcastInDim (shape2 79 320000) ![0, 1] h4 (broadcastInDim (shape2 79 1) ![0] h3
          (muli (iotaInDim (shape1 79) 32 0) (broadcastInDim (shape1 79) ![] h5 (constantI shape0 32 128#32)))))) hw)
      (constantI shape0 32 0#32) h hu (ix1 j) = BitVec.ofNat 32 (cut q j.val) := by
  refine reduce_count (by decide) _ hw h hu j (fun e => q e < 128 * j.val) fun e => ?_
  have hj := j.isLt
  have hq := hi.lt e.val
  rw [cmpi_at, bcCols, bcRows, muli_ap, bc0, constantI_at, iota1_ap, hi.word,
    show (128#32 : BitVec 32) = BitVec.ofNat 32 128 from rfl, ← BitVec.ofNat_mul,
    cmpi_slt_ofNat_eq_one_iff (show q e.val < 2 ^ (32 - 1) by omega) (show j.val * 128 < 2 ^ (32 - 1) by omega)]
  omega

/-- The chunk starts before sorting: block starts, then tile starts. -/
theorem keys_ap {q : ℕ → ℕ} (st : IVec (shape1 79) 32) (hst : ∀ j : Fin 79, st (ix1 j) = BitVec.ofNat 32 (cut q j.val))
    (h5 : shape0.BroadcastsInDim (shape1 125) (![] : Fin 0 → Fin (shape1 125).rank))
    (hc : Shape.Concatenates [shape1 125, shape1 79] (shape1 204) 0) (r : Fin 204) :
    concatenate (shape1 204) 0 [⟨shape1 125, muli (iotaInDim (shape1 125) 32 0) (broadcastInDim (shape1 125) ![] h5 (constantI shape0 32 2560#32))⟩,
      ⟨shape1 79, st⟩] hc (ix1 r) = BitVec.ofNat 32 (key q r.val) := by
  have hr := r.isLt
  unfold key
  by_cases h : r.val < 125
  · rw [if_pos h, concatenate_pair_apply_left 0 _ _ hc (ix1 r) rfl (ix1 (⟨r.val, h⟩ : Fin 125)) (fun b => by match b with | ⟨0, _⟩ => rfl),
      muli_ap, bc0, constantI_at, iota1_ap, BitVec.ofNat_mul]
  · rw [if_neg h, concatenate_pair_apply_right 0 _ _ hc (ix1 r) rfl rfl (ix1 (⟨r.val - 125, by omega⟩ : Fin 79))
      (fun b hb => absurd (Subsingleton.elim _ _) hb) (show r.val - 125 + 125 = r.val by omega), hst]

/-- A signed sort of words of naturals lists the same naturals in order. -/
theorem sort_ap {n : ℕ} (cmp : BitVec 32 → BitVec 32 → BitVec 1) (hc : ∀ l r, cmp l r = IntOp.cmpi .slt l r)
    (x : IVec (shape1 n) 32) (k : ℕ → ℕ) (hx : ∀ r : Fin n, x (ix1 r) = BitVec.ofNat 32 (k r.val)) (hk : ∀ r, k r < 2 ^ 31) :
    ∃ σ : Fin n → Fin n, Function.Surjective σ ∧ (∀ i j, i ≤ j → k (σ i).val ≤ k (σ j).val)
      ∧ ∀ r, Host.sort (shape1 n) 0 cmp x (ix1 r) = BitVec.ofNat 32 (k (σ r).val) := by
  have hR : ∀ a b : Fin n, (cmp (x (Shape.Idx.ofFin a)) (x (Shape.Idx.ofFin b)) == 1#1) = decide (k a.val < k b.val) := by
    intro a b
    rw [ofFin_eq_ix1, ofFin_eq_ix1, hc, hx, hx, cmpi_slt_ofNat (w := 32) (hk _) (hk _)]
    by_cases h : k a.val < k b.val <;> simp [h]
  refine ⟨sortedFrom fun a b => decide (k a.val < k b.val), sortedFrom_surjective _, fun i j hij => ?_, fun r => ?_⟩
  · rcases eq_or_lt_of_le hij with h | h
    · rw [h]
    · have := sortedFrom_noInversion (fun a b : Fin n => decide (k a.val < k b.val)) (fun a b => decide (k a.val < k b.val))
        (fun a b h => by simp at h ⊢; omega) (fun a b h => h) (fun a b c h h' => by simp at h h' ⊢; omega) i j h
      simpa using this
  · rw [Host.sort_rank1, ofFin_eq_ix1, hx]
    simp only [hR]
    rfl

/-- Whether each sorted entry starts a chunk, as the tables hold it. -/
theorem valid_ap (x : IVec (shape1 204) 32) (P : ℕ → ℕ) (hx : ∀ r : Fin 204, x (ix1 r) = BitVec.ofNat 32 (P r.val))
    (hP : ∀ r, P r < 2 ^ 31)
    (h0 : shape0.BroadcastsInDim (shape1 1) (![] : Fin 0 → Fin (shape1 1).rank))
    (h1 : (shape1 204).Slices ![1] (shape1 203)) (h2 : (shape1 204).Slices ![0] (shape1 203))
    (hc : Shape.Concatenates [shape1 1, shape1 203] (shape1 204) 0)
    (h3 : shape0.BroadcastsInDim (shape1 204) (![] : Fin 0 → Fin (shape1 204).rank)) (hw : 1 < 32) (r : Fin 204) :
    extui 32 (andi (concatenate (shape1 204) 0 [⟨shape1 1, broadcastInDim (shape1 1) ![] h0 (constantI shape0 1 1#1)⟩,
        ⟨shape1 203, cmpi .ne (extractStridedSlice (shape1 203) ![1] x h1) (extractStridedSlice (shape1 203) ![0] x h2)⟩] hc)
      (cmpi .slt x (broadcastInDim (shape1 204) ![] h3 (constantI shape0 32 320000#32)))) hw (ix1 r)
      = BitVec.ofNat 32 (if Valid P r.val then 1 else 0) := by
  have hr := r.isLt
  have hv : Valid P r.val ↔ (r.val = 0 ∨ P r.val ≠ P (r.val - 1)) ∧ P r.val < 320000 := Iff.rfl
  have hlt : cmpi .slt x (broadcastInDim (shape1 204) ![] h3 (constantI shape0 32 320000#32)) (ix1 r) = BitVec.ofBool (decide (P r.val < 320000)) := by
    rw [cmpi_at, bc0, constantI_at, hx]
    exact cmpi_slt_ofNat (w := 32) (hP _) (by decide)
  have hne : concatenate (shape1 204) 0 [⟨shape1 1, broadcastInDim (shape1 1) ![] h0 (constantI shape0 1 1#1)⟩,
        ⟨shape1 203, cmpi .ne (extractStridedSlice (shape1 203) ![1] x h1) (extractStridedSlice (shape1 203) ![0] x h2)⟩] hc (ix1 r)
      = BitVec.ofBool (decide (r.val = 0 ∨ P r.val ≠ P (r.val - 1))) := by
    by_cases h : r.val = 0
    · rw [concatenate_pair_apply_left 0 _ _ hc (ix1 r) rfl (ix1 (0 : Fin 1)) (fun b => by match b with | ⟨0, _⟩ => exact h.symm), bc0, constantI_at]
      simp [h]
    · rw [concatenate_pair_apply_right 0 _ _ hc (ix1 r) rfl rfl (ix1 (⟨r.val - 1, by omega⟩ : Fin 203))
        (fun b hb => absurd (Subsingleton.elim _ _) hb) (show r.val - 1 + 1 = r.val by omega), cmpi_at,
        slice1 1 x h1 _ (show 1 + (r.val - 1) < 204 by omega), slice1 0 x h2 _ (show 0 + (r.val - 1) < 204 by omega), hx, hx,
        cmpi_ne_ofNat (w := 32) (lt_trans (hP _) (by decide)) (lt_trans (hP _) (by decide))]
      simp only [h, false_or, Nat.zero_add, show 1 + (r.val - 1) = r.val by omega]
  show ((andi _ _ (ix1 r)).setWidth 32 : BitVec 32) = _
  rw [andi_at, hne, hlt, andi_ofBool, ← Bool.decide_and, setWidth_ofBool]
  exact congrArg _ (if_congr hv.symm rfl rfl)

/-- The clamp keeps each entry inside the edge array. -/
theorem clamp_ap (x : IVec (shape1 204) 32) (P : ℕ → ℕ) (hx : ∀ r : Fin 204, x (ix1 r) = BitVec.ofNat 32 (P r.val))
    (hP : ∀ r, P r < 2 ^ 31) (h3 : shape0.BroadcastsInDim (shape1 204) (![] : Fin 0 → Fin (shape1 204).rank)) (r : Fin 204) :
    minsi x (broadcastInDim (shape1 204) ![] h3 (constantI shape0 32 319999#32)) (ix1 r) = BitVec.ofNat 32 (cl P r.val) := by
  show IntOp.minsi (x (ix1 r)) _ = _
  rw [bc0, constantI_at, hx]
  unfold IntOp.minsi cl
  rw [show (319999#32 : BitVec 32) = BitVec.ofNat 32 319999 from rfl, slt_ofNat32 (hP _) (by decide)]
  by_cases h : P r.val < 319999
  · simp only [h, decide_true, if_true]; rw [Nat.min_eq_left (by omega)]
  · simp only [h, decide_false]; rw [Nat.min_eq_right (by omega)]; rfl

/-- The id of each entry's edge. -/
theorem take_ids {ids : IVec (shape1 320000) 32} {q : ℕ → ℕ} (hi : Rng ids q) (x : IVec (shape1 204) 32) (P : ℕ → ℕ)
    (hx : ∀ r : Fin 204, x (ix1 r) = BitVec.ofNat 32 (cl P r.val))
    (d : GatherDims (shape1 320000) (shape2 204 1) (shape1 204)) (hcoll : d.collapsedSliceDims = [0]) (hob : d.operandBatchingDims = [])
    (hsim : d.startIndexMap = [0]) (hivd : d.indexVectorDim = 1)
    (h3 : shape0.BroadcastsInDim (shape1 204) (![] : Fin 0 → Fin (shape1 204).rank))
    (h4 : (shape1 204).BroadcastsInDim (shape2 204 1) (![0] : Fin 1 → Fin (shape2 204 1).rank)) (r : Fin 204) :
    Host.gather d ids (broadcastInDim (shape2 204 1) ![0] h4
      (select (cmpi .slt x (broadcastInDim (shape1 204) ![] h3 (constantI shape0 32 0#32)))
        (addi x (broadcastInDim (shape1 204) ![] h3 (constantI shape0 32 320000#32))) x)) (ix1 r)
      = BitVec.ofNat 32 (q (cl P r.val)) := by
  have hl := cl_lt P r.val
  refine (take_ap d hcoll hob hsim hivd ids _ r hl (by omega) ?_).trans (hi.word _)
  rw [bcCol, select_at, cmpi_at, bc0, constantI_at, hx]
  refine wrap_of_lt _ _ ?_
  rw [BitVec.toNat_ofNat]; omega

/-- A vector of 204 words laid out as 4 rows of 51. -/
theorem rows_ap (x : IVec (shape1 204) 32) (h : (shape1 204).ShapeCasts (shape2 4 51)) (s : Fin 4) (i : Fin 51) :
    shapeCast (shape2 4 51) x h (ix2 s i) = x (ix1 (⟨s.val * 51 + i.val, by omega⟩ : Fin 204)) :=
  shapeCast_apply x h _ _ (by
    rw [Shape.rowMajor_val_two, Shape.rowMajor_val_one]
    rfl)

end Cert.Words
-- ==== Proof.Pre.lean ====
module

public import proofs.«01_k».proof.Pre_sorted_ids
public import proofs.«01_k».proof.Pre_atom_ids
public import proofs.«01_k».proof.Proof.Words
public import Idealize.ShloMosaic.Lib.ReduceAll

@[expose] public section

/-! The preconditions read on the atom ids: naturals below 10000; and in order. -/

noncomputable section

namespace Cert.Words

open Idealize.ShloMosaic
open Idealize.ShloMosaic.ValueIdx Idealize.ShloMosaic.WordCmp
open Idealize.ShloMosaic.Routing (shape1 bc0 slice1)

/-- A word whose signed value is at least that of another, both small naturals, is the larger natural. -/
theorem sge_small {a b : BitVec 32} (ha : a.toNat < 10000) (hb : b.toNat < 10000) (h : IntOp.cmpi .sge a b = 1#1) :
    b.toNat ≤ a.toNat := by
  rw [show a = BitVec.ofNat 32 a.toNat by simp, show b = BitVec.ofNat 32 b.toNat by simp,
    cmpi_sge_ofNat (w := 32) (show a.toNat < 2 ^ 31 by omega) (show b.toNat < 2 ^ 31 by omega), ofBool_decide_eq_one_iff] at h
  exact h

/-- An id that is at least 0 and below 10000 as a signed word is a natural below 10000. -/
theorem id_lt {a : BitVec 32} (h0 : IntOp.cmpi .sge a 0#32 = 1#1) (h1 : IntOp.cmpi .slt a 10000#32 = 1#1) : a.toNat < 10000 := by
  have := andi_sge_zero_slt_ofNat (w := 32) (k := 10000) (by decide) a
  rw [h0, show (BitVec.ofNat 32 10000) = 10000#32 from rfl, h1] at this
  have h : BitVec.ofBool (decide (a.toNat < 10000)) = 1#1 := this.symm.trans (by decide)
  exact (ofBool_decide_eq_one_iff _).1 h

/-- The number of each id; past the last edge, the last atom. -/
def atomOf (a : IVec (shape1 320000) 32) (e : ℕ) : ℕ := if h : e < 320000 then (a (ix1 (⟨e, h⟩ : Fin 320000))).toNat else 9999

/-- Ids that are all below 10000 are words of their numbers. -/
theorem rng_atomOf (a : IVec (shape1 320000) 32) (lt : ∀ e : Fin 320000, (a (ix1 e)).toNat < 10000) : Rng a (atomOf a) := by
  refine ⟨fun e => ?_, fun e => ?_⟩
  · simp only [atomOf, e.isLt, dif_pos]; simp
  · unfold atomOf
    split
    · exact lt _
    · decide

end Cert.Words

namespace Cert.Pre_atom_ids

open Idealize.ShloMosaic
open Idealize.ShloMosaic.ValueIdx Idealize.ShloMosaic.WordCmp
open Idealize.ShloMosaic.Routing (bc0)
open Cert.Words

variable {F : FTy → Type} [FloatOps F]

/-- The side conditions the precondition states on its shapes. -/
instance facts : Facts where
  bcast_S_S320000 := by decide
  reducesTo_S320000_S_d0 := by decide
  h_S_ := by decide

/-- Where the precondition holds, the ids are naturals below 10000. -/
theorem rng_of [Facts] (a0 : FVec F S10000x128 .f32) (a1 : FVec F S320000x128 .f32) (a2 : FVec F S320000x16 .f32) (a3 : IVec S320000 32)
    (a4 : FVec F S16x128 .f32) (a5 a6 a7 a8 a9 : FVec F S128x128 .f32) (a10 : FVec F S_ .f32)
    (h : fn a0 a1 a2 a3 a4 a5 a6 a7 a8 a9 a10 = fun _ => 1#1) : ∃ q : ℕ → ℕ, Rng a3 q := by
  have h0 := congrFun h ix0
  unfold fn at h0
  simp only [andi_at] at h0
  obtain ⟨h1, h2⟩ := IntOp.andi_eq_one.1 h0
  have : Subsingleton S_.Idx := ⟨fun a b => funext fun d => d.elim0⟩
  refine ⟨atomOf a3, rng_atomOf a3 fun e => id_lt ?_ ?_⟩
  · have := Host.reduce_andi_all _ _ _ _ _ h1 (ix1 e)
    rwa [cmpi_at, bc0, constantI_at] at this
  · have := Host.reduce_andi_all _ _ _ _ _ h2 (ix1 e)
    rwa [cmpi_at, bc0, constantI_at] at this

end Cert.Pre_atom_ids

namespace Cert.Pre_sorted_ids

open Idealize.ShloMosaic
open Idealize.ShloMosaic.ValueIdx Idealize.ShloMosaic.WordCmp
open Idealize.ShloMosaic.Routing (shape1 bc0 slice1)
open Cert.Words

variable {F : FTy → Type} [FloatOps F]

/-- Where the precondition holds, the ids are naturals below 10000, in order. -/
theorem ids_of [Facts] (a0 : FVec F S10000x128 .f32) (a1 : FVec F S320000x128 .f32) (a2 : FVec F S320000x16 .f32) (a3 : IVec S320000 32)
    (a4 : FVec F S16x128 .f32) (a5 a6 a7 a8 a9 : FVec F S128x128 .f32) (a10 : FVec F S_ .f32)
    (h : fn a0 a1 a2 a3 a4 a5 a6 a7 a8 a9 a10 = fun _ => 1#1) : ∃ q : ℕ → ℕ, Ids a3 q := by
  have h0 := congrFun h ix0
  unfold fn at h0
  simp only [andi_at] at h0
  obtain ⟨h12, h3⟩ := IntOp.andi_eq_one.1 h0
  obtain ⟨h1, h2⟩ := IntOp.andi_eq_one.1 h12
  have : Subsingleton S_.Idx := ⟨fun a b => funext fun d => d.elim0⟩
  have g1 : ∀ e : Fin 320000, IntOp.cmpi .sge (a3 (ix1 e)) 0#32 = 1#1 := fun e => by
    have := Host.reduce_andi_all _ _ _ _ _ h1 (ix1 e)
    rwa [cmpi_at, bc0, constantI_at] at this
  have g2 : ∀ e : Fin 320000, IntOp.cmpi .slt (a3 (ix1 e)) 10000#32 = 1#1 := fun e => by
    have := Host.reduce_andi_all _ _ _ _ _ h2 (ix1 e)
    rwa [cmpi_at, bc0, constantI_at] at this
  have lt : ∀ e : Fin 320000, (a3 (ix1 e)).toNat < 10000 := fun e => id_lt (g1 e) (g2 e)
  have g3 : ∀ e (he : e + 1 < 320000), (a3 (ix1 (⟨e, by omega⟩ : Fin 320000))).toNat ≤ (a3 (ix1 (⟨e + 1, he⟩ : Fin 320000))).toNat := fun e he => by
    have := Host.reduce_andi_all _ _ _ _ _ h3 (ix1 (⟨e, by omega⟩ : Fin 319999))
    rw [cmpi_at, slice1 1 a3 _ _ (show 1 + e < 320000 by omega), slice1 0 a3 _ _ (show 0 + e < 320000 by omega)] at this
    have := sge_small (lt _) (lt _) this
    simpa only [Nat.zero_add, Nat.add_comm 1 e] using this
  refine ⟨atomOf a3, rng_atomOf a3 lt, ?_⟩
  · refine monotone_nat_of_le_succ fun e => ?_
    unfold atomOf
    by_cases h : e + 1 < 320000
    · simp only [h, show e < 320000 by omega, dif_pos]; exact g3 e h
    · simp only [h, dif_neg, not_false_eq_true]
      split
      · have := lt ⟨e, by assumption⟩; omega
      · exact le_rfl

end Cert.Pre_sorted_ids
-- ==== Proof.Ideal.Body0.lean ====
module

public import proofs.«01_k».proof.Proof.Gen.KernelIdeal.Skeleton
public import Idealize.ShloMosaic.Lib.Tactic
public import Idealize.ShloMosaic.Lib.Pipeline.Kit
public import Idealize.ShloMosaic.Lib.WritesUnit
public import Idealize.ShloMosaic.Lib.Pipeline.FrameBody
public import Idealize.ShloMosaic.Lib.Pipeline.ValueKit
public import Idealize.ShloMosaic.Lib.VecWindow

@[expose] public section

set_option maxRecDepth 16384

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources of the proof. -/
abbrev UU : Type := UR sig nD τ
local notation "𝕄" => MT nD τ sig Unit (Elt F) ℕ UU ℕ

/-- The contents of a staged block's buffer. -/
abbrev Bf (c : Dev nD) {sp : Space} {S : Shape} {e : EltTy} (M : Memref sig .tc sp S e) : Type := Buf (Elt F) (M.view.loc (c : Thread nD τ))
/-- A memref's own elements held at contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-- One lane of the first kernel's body, with what follows it. -/
def laneP (off : Fin 2 → ℕ) (hoff : ∀ a, off a + S1x1.size a ≤ S4x51.size a)
    (aq av : Memref sig .tc .smem S4x51 .i32) (aI : Memref sig .tc .vmem S1x2560x1 .i32)
    (aR : Memref sig .tc .vmem S2560x16 .f32) (aM : Memref sig .tc .vmem S2560x128 .f32)
    (aW : Memref sig .tc .vmem S16x128 .f32) (aO : Memref sig .tc .vmem S10112x128 .f32)
    (kk : PUnit.{1} → Prog (TpuEff nD τ sig (Elt F) Λ₀ .tc) PUnit) :
    Prog (TpuEff nD τ sig (Elt F) Λ₀ .tc) PUnit := do
  let v5 : Elt F .i32 ← smemLoad av (Rect.unit (s := S4x51) off S1x1.size hoff) numel1_S1x1 rfl
  if h2 : k0_cond2 v5 = 1#1 then do
    let v24 : Vec F S2560x16 .f32 ← Prog.lift (.load aR (Rect.unit (s := S2560x16) ![0, 0] S2560x16.size inb_S2560x16_S2560x16_0_0).toLoadRect (View.loadsAt_vmem h_S2560x16))
    let v25 : Vec F S16x128 .f32 ← Prog.lift (.load aW (Rect.unit (s := S16x128) ![0, 0] S16x128.size inb_S16x128_S16x128_0_0).toLoadRect (View.loadsAt_vmem h_S16x128))
    let v27 : Vec F S2560x128 .f32 ← Prog.lift (.load aM (Rect.unit (s := S2560x128) ![0, 0] S2560x128.size inb_S2560x128_S2560x128_0_0).toLoadRect (View.loadsAt_vmem h_S2560x128))
    let v31 : Elt F .i32 ← smemLoad aq (Rect.unit (s := S4x51) off S1x1.size hoff) numel1_S1x1 rfl
    have hw1 : k0_chk1 v5 v31 := (← Prog.lift (TpuEff.assume (k0_chk1 v5 v31) (k0_chk1.dec v5 v31))).down
    let v32 : Vec F S1x2560x1 .i32 ← Prog.lift (.load aI (Rect.unit (s := S1x2560x1) ![0, 0, 0] S1x2560x1.size inb_S1x2560x1_S1x2560x1_0_0_0).toLoadRect (View.loadsAt_vmem h_S1x2560x1))
    let v46 : Vec F S128x128 .f32 ← Prog.lift (.load aO (Rect.unit (s := S10112x128) (k0_off6 v31) S128x128.size (k0_off6_inb v5 v31 hw1 h2)).toLoadRect (View.loadsAt_vmem h_S128x128))
    let _v50 : Vec F S128x128 .f32 ← Prog.lift (.load aO (Rect.unit (s := S10112x128) (k0_off6 v31) S128x128.size (k0_off6_inb v5 v31 hw1 h2)).toLoadRect (View.loadsAt_vmem h_S128x128))
    Prog.lift (.store aO (Rect.unit (s := S10112x128) (k0_off6 v31) S128x128.size (k0_off6_inb v5 v31 hw1 h2)) (k0_pay2 v24 v25 v27 v31 v32 v46) Finset.univ (View.stores_vmem_bits_univ h_S128x128 rfl) (.inl rfl))
    kk ⟨⟩
  else kk ⟨⟩

/-- The zeroing of the accumulator at the first point, with what follows it. -/
def initP (i : grid0.Coords) (aO : Memref sig .tc .vmem S10112x128 .f32)
    (kk : PUnit.{1} → Prog (TpuEff nD τ sig (Elt F) Λ₀ .tc) PUnit) :
    Prog (TpuEff nD τ sig (Elt F) Λ₀ .tc) PUnit := do
  if k0_h1 : k0_cond1 i = 1#1 then do
    let _v25 : Vec F S10112x128 .f32 ← Prog.lift (.load aO (Rect.unit (s := S10112x128) ![0, 0] S10112x128.size inb_S10112x128_S10112x128_0_0).toLoadRect (View.loadsAt_vmem h_S10112x128))
    Prog.lift (.store aO (Rect.unit (s := S10112x128) ![0, 0] S10112x128.size inb_S10112x128_S10112x128_0_0) (k0_pay1 (F := F)) Finset.univ (View.stores_vmem_bits_univ h_S10112x128 rfl) (.inl rfl))
    kk ⟨⟩
  else kk ⟨⟩

/-- The body is the zeroing of the accumulator at the first point, then the four lanes in turn. -/
theorem skel_eq_lanes (i : grid0.Coords) (arg1 : Memref sig .tc .smem S4x51 .i32) (harg1 : arg1.IsWhole) (arg2 : Memref sig .tc .smem S4x51 .i32) (harg2 : arg2.IsWhole) (arg3 : Memref sig .tc .smem S4x51 .i32) (harg3 : arg3.IsWhole) (arg4 : Memref sig .tc .vmem S1x2560x1 .i32) (harg4 : arg4.IsWhole) (arg5 : Memref sig .tc .vmem S1x2560x1 .i32) (harg5 : arg5.IsWhole) (arg6 : Memref sig .tc .vmem S1x2560x1 .i32) (harg6 : arg6.IsWhole) (arg7 : Memref sig .tc .vmem S1x2560x1 .i32) (harg7 : arg7.IsWhole) (arg8 : Memref sig .tc .vmem S2560x16 .f32) (harg8 : arg8.IsWhole) (arg9 : Memref sig .tc .vmem S2560x16 .f32) (harg9 : arg9.IsWhole) (arg10 : Memref sig .tc .vmem S2560x16 .f32) (harg10 : arg10.IsWhole) (arg11 : Memref sig .tc .vmem S2560x16 .f32) (harg11 : arg11.IsWhole) (arg12 : Memref sig .tc .vmem S2560x128 .f32) (harg12 : arg12.IsWhole) (arg13 : Memref sig .tc .vmem S2560x128 .f32) (harg13 : arg13.IsWhole) (arg14 : Memref sig .tc .vmem S2560x128 .f32) (harg14 : arg14.IsWhole) (arg15 : Memref sig .tc .vmem S2560x128 .f32) (harg15 : arg15.IsWhole) (arg16 : Memref sig .tc .vmem S16x128 .f32) (harg16 : arg16.IsWhole) (arg17 : Memref sig .tc .vmem S10112x128 .f32) (harg17 : arg17.IsWhole) :
    cc0__lambda_ (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      = initP i arg17 fun _ => laneP (k0_off1 i) (k0_off1_inb i) arg2 arg3 arg4 arg8 arg12 arg16 arg17 fun _ =>
        laneP (k0_off7 i) (k0_off7_inb i) arg2 arg3 arg5 arg9 arg13 arg16 arg17 fun _ =>
        laneP (k0_off10 i) (k0_off10_inb i) arg2 arg3 arg6 arg10 arg14 arg16 arg17 fun _ =>
        laneP (k0_off13 i) (k0_off13_inb i) arg2 arg3 arg7 arg11 arg15 arg16 arg17 fun _ => pure ⟨⟩ := by
  rw [cc0__lambda__eq_skeleton]
  rfl

/-- The word of a table at an offset. -/
abbrev word (T : Vec F S4x51 .i32) (off : Fin 2 → ℕ) (hoff : ∀ a, off a + S1x1.size a ≤ S4x51.size a) : Elt F .i32 :=
  View.ld T (Rect.unit (s := S4x51) off S1x1.size hoff) (Shape.Idx.first (numel1_S1x1.symm ▸ Nat.one_pos))

/-- What one lane leaves in the accumulator: with the chunk valid, its tile's block takes the payload over the block. -/
def laneStep (q v : Elt F .i32) (xI : Vec F S1x2560x1 .i32) (xR : Vec F S2560x16 .f32) (xM : Vec F S2560x128 .f32)
    (xW : Vec F S16x128 .f32) (acc : Vec F S10112x128 .f32) : Vec F S10112x128 .f32 :=
  if h : k0_cond2 v = 1#1 ∧ ∀ a, k0_off6 q a + S128x128.size a ≤ S10112x128.size a then
    (Rect.unit (s := S10112x128) (k0_off6 q) S128x128.size h.2).overlay acc
      (k0_pay2 xR xW xM q xI (View.ld acc (Rect.unit (s := S10112x128) (k0_off6 q) S128x128.size h.2)))
  else acc

/-- A lane whose chunk is valid. -/
theorem laneStep_pos (q v : Elt F .i32) (xI : Vec F S1x2560x1 .i32) (xR : Vec F S2560x16 .f32) (xM : Vec F S2560x128 .f32)
    (xW : Vec F S16x128 .f32) (acc : Vec F S10112x128 .f32) (hv : k0_cond2 v = 1#1)
    (hq : ∀ a, k0_off6 q a + S128x128.size a ≤ S10112x128.size a) :
    laneStep q v xI xR xM xW acc = (Rect.unit (s := S10112x128) (k0_off6 q) S128x128.size hq).overlay acc
      (k0_pay2 xR xW xM q xI (View.ld acc (Rect.unit (s := S10112x128) (k0_off6 q) S128x128.size hq))) :=
  dif_pos ⟨hv, hq⟩

/-- A lane whose chunk is not valid. -/
theorem laneStep_neg (q v : Elt F .i32) (xI : Vec F S1x2560x1 .i32) (xR : Vec F S2560x16 .f32) (xM : Vec F S2560x128 .f32)
    (xW : Vec F S16x128 .f32) (acc : Vec F S10112x128 .f32) (hv : ¬ k0_cond2 v = 1#1) :
    laneStep q v xI xR xM xW acc = acc :=
  dif_neg fun h => hv h.1

/-- The zero offsets in two axes. -/
theorem hz2 : (![0, 0] : Fin 2 → Nat) = fun _ => 0 := funext fun a => by fin_cases a <;> rfl
/-- The zero offsets in three axes. -/
theorem hz3 : (![0, 0, 0] : Fin 3 → Nat) = fun _ => 0 := funext fun a => by fin_cases a <;> rfl

/-- One unmasked write through a view reads back as the overlay of its payload. -/
theorem read_writes_one {sp : Space} {S : Shape} {e : EltTy} (v : View sig .tc sp S e) (f : v.ty.Contents (Elt F)) (r : Rect S)
    (w : r.shape.Idx → Elt F e) :
    v.read (Elt F) (v.writes (Elt F) f [⟨r, w⟩]) = r.overlay (v.read (Elt F) f) w := by
  funext y
  by_cases hy : y ∈ r.set
  · obtain ⟨x, rfl⟩ : ∃ x, r.emb x = y := r.exists_idx_of_mem hy
    rw [Rect.overlay_emb]
    exact View.read_writes_cons_emb v f r _ [] x
  · rw [Rect.overlay_of_not_mem _ _ _ hy]
    exact View.read_writes_cons_miss v f ⟨r, _⟩ [] y hy

/-- One lane's run: from its operands' contents the accumulator is left as `laneStep` says, the rest as found. -/
theorem lane_run (c : Dev nD) (off : Fin 2 → ℕ) (hoff : ∀ a, off a + S1x1.size a ≤ S4x51.size a)
    (aq av : Memref sig .tc .smem S4x51 .i32) (aI : Memref sig .tc .vmem S1x2560x1 .i32)
    (aR : Memref sig .tc .vmem S2560x16 .f32) (aM : Memref sig .tc .vmem S2560x128 .f32)
    (aW : Memref sig .tc .vmem S16x128 .f32) (aO : Memref sig .tc .vmem S10112x128 .f32)
    (fq : Bf (F := F) c aq) (fv : Bf (F := F) c av) (fI : Bf (F := F) c aI) (fR : Bf (F := F) c aR)
    (fM : Bf (F := F) c aM) (fW : Bf (F := F) c aW) (fO : Bf (F := F) c aO)
    (hchk : k0_chk1 (word (av.view.read (Elt F) fv) off hoff) (word (aq.view.read (Elt F) fq) off hoff))
    (kk : PUnit.{1} → Prog (TpuEff nD τ sig (Elt F) Λ₀ .tc) PUnit) (Q : PUnit → sProp 𝕄) :
    iprop(pt c aq fq ∗ pt c av fv ∗ pt c aI fI ∗ pt c aR fR ∗ pt c aM fM ∗ pt c aW fW ∗ pt c aO fO
      ∗ (iprop(pt c aq fq ∗ pt c av fv ∗ pt c aI fI ∗ pt c aR fR ∗ pt c aM fM ∗ pt c aW fW
          ∗ ∃ gO, ⌜aO.view.read (Elt F) gO = laneStep (word (aq.view.read (Elt F) fq) off hoff) (word (av.view.read (Elt F) fv) off hoff)
            (aI.view.read (Elt F) fI) (aR.view.read (Elt F) fR) (aM.view.read (Elt F) fM) (aW.view.read (Elt F) fW) (aO.view.read (Elt F) fO)⌝
            ∗ pt c aO gO)
        -∗ wp frame (wpE (defs₀ (F := F)) Variants.none c none) Set.univ (kk ⟨⟩) Q))
    ⊢ wp frame (wpE (defs₀ (F := F)) Variants.none c none) Set.univ (laneP off hoff aq av aI aR aM aW aO kk) Q := by
  iintro ⟨Hq, Hv, HI, HR, HM, HW, HO, Hk⟩
  by_cases hc : k0_cond2 (word (av.view.read (Elt F) fv) off hoff) = 1#1
  · sl_unfold [laneP]
    sl_exec (disch := first | sl_exact hc | sl_exact hchk)
    iapply Hk
    isplitl [Hq]; · iexact Hq
    isplitl [Hv]; · iexact Hv
    isplitl [HI]; · iexact HI
    isplitl [HR]; · iexact HR
    isplitl [HM]; · iexact HM
    isplitl [HW]; · iexact HW
    iexists _; isplitr; swap; (· iexact HO)
    · ipureintro
      sl_unfold_words
      rw [read_writes_one]
      simp only [View.readAt_eq_ld, View.ld_unit_zero (S := S2560x16) hz2, View.ld_unit_zero (S := S2560x128) hz2,
        View.ld_unit_zero (S := S16x128) hz2, View.ld_unit_zero (S := S1x2560x1) hz3]
      exact (laneStep_pos _ _ _ _ _ _ _ hc (hchk hc)).symm
  · sl_unfold [laneP]
    sl_exec (disch := first | sl_exact hc | sl_exact hchk)
    iapply Hk
    isplitl [Hq]; · iexact Hq
    isplitl [Hv]; · iexact Hv
    isplitl [HI]; · iexact HI
    isplitl [HR]; · iexact HR
    isplitl [HM]; · iexact HM
    isplitl [HW]; · iexact HW
    iexists _; isplitr; swap; (· iexact HO)
    · ipureintro
      unfold laneStep
      rw [dif_neg (fun h => hc h.1)]

/-- What the zeroing leaves in the accumulator. -/
def initStep (i : grid0.Coords) (acc : Vec F S10112x128 .f32) : Vec F S10112x128 .f32 :=
  if k0_cond1 i = 1#1 then k0_pay1 else acc

/-- The zeroing's run. -/
theorem init_run (c : Dev nD) (i : grid0.Coords) (aO : Memref sig .tc .vmem S10112x128 .f32) (fO : Bf (F := F) c aO)
    (kk : PUnit.{1} → Prog (TpuEff nD τ sig (Elt F) Λ₀ .tc) PUnit) (Q : PUnit → sProp 𝕄) :
    iprop(pt c aO fO
      ∗ (iprop(∃ gO, ⌜aO.view.read (Elt F) gO = initStep i (aO.view.read (Elt F) fO)⌝ ∗ pt c aO gO)
        -∗ wp frame (wpE (defs₀ (F := F)) Variants.none c none) Set.univ (kk ⟨⟩) Q))
    ⊢ wp frame (wpE (defs₀ (F := F)) Variants.none c none) Set.univ (initP i aO kk) Q := by
  iintro ⟨HO, Hk⟩
  by_cases hc : k0_cond1 i = 1#1
  · sl_unfold [initP]
    sl_exec (disch := sl_exact hc)
    iapply Hk
    iexists _; isplitr; swap; (· iexact HO)
    · ipureintro
      unfold initStep
      rw [if_pos hc]
      exact View.read_writes_full aO.view fO inb_S10112x128_S10112x128_0_0 _ []
  · sl_unfold [initP]
    sl_exec (disch := sl_exact hc)
    iapply Hk
    iexists _; isplitr; swap; (· iexact HO)
    · ipureintro
      unfold initStep
      rw [if_neg hc]

/-- What one grid point leaves in the accumulator: the zeroing, then the four lanes in order. -/
def pointStep (i : grid0.Coords) (T1 T2 : Vec F S4x51 .i32)
    (xI0 xI1 xI2 xI3 : Vec F S1x2560x1 .i32) (xR0 xR1 xR2 xR3 : Vec F S2560x16 .f32)
    (xM0 xM1 xM2 xM3 : Vec F S2560x128 .f32) (xW : Vec F S16x128 .f32) (acc : Vec F S10112x128 .f32) :
    Vec F S10112x128 .f32 :=
  laneStep (word T1 (k0_off13 i) (k0_off13_inb i)) (word T2 (k0_off13 i) (k0_off13_inb i)) xI3 xR3 xM3 xW <|
  laneStep (word T1 (k0_off10 i) (k0_off10_inb i)) (word T2 (k0_off10 i) (k0_off10_inb i)) xI2 xR2 xM2 xW <|
  laneStep (word T1 (k0_off7 i) (k0_off7_inb i)) (word T2 (k0_off7 i) (k0_off7_inb i)) xI1 xR1 xM1 xW <|
  laneStep (word T1 (k0_off1 i) (k0_off1_inb i)) (word T2 (k0_off1 i) (k0_off1_inb i)) xI0 xR0 xM0 xW <|
  initStep i acc

/-- The tables' words are in range: every valid chunk's tile lies inside the accumulator. -/
def ChkAt (T1 T2 : Vec F S4x51 .i32) : Prop :=
  ∀ (off : Fin 2 → ℕ) (hoff : ∀ a, off a + S1x1.size a ≤ S4x51.size a),
    ∀ a, k0_off6 (word T1 off hoff) a + S128x128.size a ≤ S10112x128.size a

/-- The body's run at one grid point, from the tables and the staged blocks. -/
theorem body_run (c : Dev nD) (i : grid0.Coords) (arg1 : Memref sig .tc .smem S4x51 .i32) (harg1 : arg1.IsWhole) (arg2 : Memref sig .tc .smem S4x51 .i32) (harg2 : arg2.IsWhole) (arg3 : Memref sig .tc .smem S4x51 .i32) (harg3 : arg3.IsWhole) (arg4 : Memref sig .tc .vmem S1x2560x1 .i32) (harg4 : arg4.IsWhole) (arg5 : Memref sig .tc .vmem S1x2560x1 .i32) (harg5 : arg5.IsWhole) (arg6 : Memref sig .tc .vmem S1x2560x1 .i32) (harg6 : arg6.IsWhole) (arg7 : Memref sig .tc .vmem S1x2560x1 .i32) (harg7 : arg7.IsWhole) (arg8 : Memref sig .tc .vmem S2560x16 .f32) (harg8 : arg8.IsWhole) (arg9 : Memref sig .tc .vmem S2560x16 .f32) (harg9 : arg9.IsWhole) (arg10 : Memref sig .tc .vmem S2560x16 .f32) (harg10 : arg10.IsWhole) (arg11 : Memref sig .tc .vmem S2560x16 .f32) (harg11 : arg11.IsWhole) (arg12 : Memref sig .tc .vmem S2560x128 .f32) (harg12 : arg12.IsWhole) (arg13 : Memref sig .tc .vmem S2560x128 .f32) (harg13 : arg13.IsWhole) (arg14 : Memref sig .tc .vmem S2560x128 .f32) (harg14 : arg14.IsWhole) (arg15 : Memref sig .tc .vmem S2560x128 .f32) (harg15 : arg15.IsWhole) (arg16 : Memref sig .tc .vmem S16x128 .f32) (harg16 : arg16.IsWhole) (arg17 : Memref sig .tc .vmem S10112x128 .f32) (harg17 : arg17.IsWhole)
    (f1 : Bf (F := F) c arg1) (f2 : Bf (F := F) c arg2) (f3 : Bf (F := F) c arg3)
    (g0 : Bf (F := F) c arg4) (g1 : Bf (F := F) c arg5) (g2 : Bf (F := F) c arg6) (g3 : Bf (F := F) c arg7)
    (r0 : Bf (F := F) c arg8) (r1 : Bf (F := F) c arg9) (r2 : Bf (F := F) c arg10) (r3 : Bf (F := F) c arg11)
    (m0 : Bf (F := F) c arg12) (m1 : Bf (F := F) c arg13) (m2 : Bf (F := F) c arg14) (m3 : Bf (F := F) c arg15)
    (w : Bf (F := F) c arg16) (fO : Bf (F := F) c arg17)
    (hchk : ChkAt (F := F) (arg2.view.read (Elt F) f2) (arg3.view.read (Elt F) f3))
    (Q : PUnit → sProp 𝕄) :
    iprop(pt c arg2 f2 ∗ pt c arg3 f3 ∗ pt c arg4 g0 ∗ pt c arg5 g1 ∗ pt c arg6 g2 ∗ pt c arg7 g3
      ∗ pt c arg8 r0 ∗ pt c arg9 r1 ∗ pt c arg10 r2 ∗ pt c arg11 r3 ∗ pt c arg12 m0 ∗ pt c arg13 m1 ∗ pt c arg14 m2 ∗ pt c arg15 m3
      ∗ pt c arg16 w ∗ pt c arg17 fO
      ∗ (iprop(pt c arg2 f2 ∗ pt c arg3 f3 ∗ pt c arg4 g0 ∗ pt c arg5 g1 ∗ pt c arg6 g2 ∗ pt c arg7 g3
          ∗ pt c arg8 r0 ∗ pt c arg9 r1 ∗ pt c arg10 r2 ∗ pt c arg11 r3 ∗ pt c arg12 m0 ∗ pt c arg13 m1 ∗ pt c arg14 m2 ∗ pt c arg15 m3
          ∗ pt c arg16 w
          ∗ ∃ gO, ⌜arg17.view.read (Elt F) gO = pointStep i (arg2.view.read (Elt F) f2) (arg3.view.read (Elt F) f3)
              (arg4.view.read (Elt F) g0) (arg5.view.read (Elt F) g1) (arg6.view.read (Elt F) g2) (arg7.view.read (Elt F) g3)
              (arg8.view.read (Elt F) r0) (arg9.view.read (Elt F) r1) (arg10.view.read (Elt F) r2) (arg11.view.read (Elt F) r3)
              (arg12.view.read (Elt F) m0) (arg13.view.read (Elt F) m1) (arg14.view.read (Elt F) m2) (arg15.view.read (Elt F) m3)
              (arg16.view.read (Elt F) w) (arg17.view.read (Elt F) fO)⌝ ∗ pt c arg17 gO) -∗ Q ⟨⟩))
    ⊢ wp frame (wpE (defs₀ (F := F)) Variants.none c none) Set.univ
        (cc0__lambda_ (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Q := by
  rw [skel_eq_lanes]
  iintro ⟨Hq, Hv, HI0, HI1, HI2, HI3, HR0, HR1, HR2, HR3, HM0, HM1, HM2, HM3, HW, HO, Hk⟩
  iapply (init_run c i arg17 fO)
  isplitl [HO]; · iexact HO
  iintro ⟨%gO, %hO, HO⟩
  iapply (lane_run c (k0_off1 i) (k0_off1_inb i) arg2 arg3 arg4 arg8 arg12 arg16 arg17 f2 f3 g0 r0 m0 w gO fun _ => hchk _ _)
  isplitl [Hq]; · iexact Hq
  isplitl [Hv]; · iexact Hv
  isplitl [HI0]; · iexact HI0
  isplitl [HR0]; · iexact HR0
  isplitl [HM0]; · iexact HM0
  isplitl [HW]; · iexact HW
  isplitl [HO]; · iexact HO
  iintro ⟨Hq, Hv, HI0, HR0, HM0, HW, ⟨%gO', %hO', HO⟩⟩
  iapply (lane_run c (k0_off7 i) (k0_off7_inb i) arg2 arg3 arg5 arg9 arg13 arg16 arg17 f2 f3 g1 r1 m1 w gO' fun _ => hchk _ _)
  isplitl [Hq]; · iexact Hq
  isplitl [Hv]; · iexact Hv
  isplitl [HI1]; · iexact HI1
  isplitl [HR1]; · iexact HR1
  isplitl [HM1]; · iexact HM1
  isplitl [HW]; · iexact HW
  isplitl [HO]; · iexact HO
  iintro ⟨Hq, Hv, HI1, HR1, HM1, HW, ⟨%gO'', %hO'', HO⟩⟩
  iapply (lane_run c (k0_off10 i) (k0_off10_inb i) arg2 arg3 arg6 arg10 arg14 arg16 arg17 f2 f3 g2 r2 m2 w gO'' fun _ => hchk _ _)
  isplitl [Hq]; · iexact Hq
  isplitl [Hv]; · iexact Hv
  isplitl [HI2]; · iexact HI2
  isplitl [HR2]; · iexact HR2
  isplitl [HM2]; · iexact HM2
  isplitl [HW]; · iexact HW
  isplitl [HO]; · iexact HO
  iintro ⟨Hq, Hv, HI2, HR2, HM2, HW, ⟨%gO''', %hO''', HO⟩⟩
  iapply (lane_run c (k0_off13 i) (k0_off13_inb i) arg2 arg3 arg7 arg11 arg15 arg16 arg17 f2 f3 g3 r3 m3 w gO''' fun _ => hchk _ _)
  isplitl [Hq]; · iexact Hq
  isplitl [Hv]; · iexact Hv
  isplitl [HI3]; · iexact HI3
  isplitl [HR3]; · iexact HR3
  isplitl [HM3]; · iexact HM3
  isplitl [HW]; · iexact HW
  isplitl [HO]; · iexact HO
  iintro ⟨Hq, Hv, HI3, HR3, HM3, HW, ⟨%gO'''', %hO'''', HO⟩⟩
  sl_step
  iapply Hk
  isplitl [Hq]; · iexact Hq
  isplitl [Hv]; · iexact Hv
  isplitl [HI0]; · iexact HI0
  isplitl [HI1]; · iexact HI1
  isplitl [HI2]; · iexact HI2
  isplitl [HI3]; · iexact HI3
  isplitl [HR0]; · iexact HR0
  isplitl [HR1]; · iexact HR1
  isplitl [HR2]; · iexact HR2
  isplitl [HR3]; · iexact HR3
  isplitl [HM0]; · iexact HM0
  isplitl [HM1]; · iexact HM1
  isplitl [HM2]; · iexact HM2
  isplitl [HM3]; · iexact HM3
  isplitl [HW]; · iexact HW
  iexists _; isplitr; swap; (· iexact HO)
  ipureintro
  rw [hO'''', hO''', hO'', hO', hO]
  rfl

end Cert.KernelIdeal.Run
end
-- ==== Proof.Ideal.Region0.lean ====
module

public import proofs.«01_k».proof.Proof.Ideal.Body0
public import proofs.«01_k».proof.Proof.Gen.KernelIdeal.Launch
public import Idealize.ShloMosaic.Lib.Pipeline.TableIdle

@[expose] public section

set_option maxRecDepth 16384

noncomputable section

namespace Cert.KernelIdeal.Run

open Cert.KernelIdeal Cert.KernelIdeal.Gen
open Idealize.ShloMosaic Idealize.ShloMosaic.Pipeline
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Dev nD → Valuation τ sig (Elt F)) (a0 : (pcfg0 (F := F)).Adm)

/-- The block of window `w`'s array that point `t` reads. -/
abbrev blk0 (c : Dev nD) (w : Fin 14) (t : Fin (cfg0 a0).N) : ((cfg0 a0).win w).block.Idx → Elt F ((cfg0 a0).win w).elt :=
  (((cfg0 a0).win w).blk t).view.read (Elt F) (V c (arrRef spec0 w))

/-- What point `t` leaves in the accumulator that held `acc`. -/
def stepAt (c : Dev nD) (t : Fin (cfg0 a0).N) (acc : Vec F S10112x128 .f32) : Vec F S10112x128 .f32 :=
  pointStep (grid0.coords t) (a0.1 1) (a0.1 2) (blk0 V a0 c 0 t) (blk0 V a0 c 1 t) (blk0 V a0 c 2 t) (blk0 V a0 c 3 t)
    (blk0 V a0 c 4 t) (blk0 V a0 c 5 t) (blk0 V a0 c 6 t) (blk0 V a0 c 7 t)
    (blk0 V a0 c 8 t) (blk0 V a0 c 9 t) (blk0 V a0 c 10 t) (blk0 V a0 c 11 t) (blk0 V a0 c 12 t) acc

/-- The accumulator before point `n`. -/
def accAt (c : Dev nD) : ℕ → Vec F S10112x128 .f32
  | 0 => k0_pay1
  | n + 1 => if h : n < (cfg0 a0).N then stepAt V a0 c ⟨n, h⟩ (accAt c n) else accAt c n

/-- The accumulator after a point is the point's step of the one before. -/
theorem accAt_succ (c : Dev nD) (t : Fin (cfg0 a0).N) : accAt V a0 c (t.val + 1) = stepAt V a0 c t (accAt V a0 c t.val) := by
  rw [accAt, dif_pos t.isLt]

/-- The first kernel's proof data: the arrays as the region finds them, the blocks left in place, the accumulator's
    running contents, the tables held whole through every point, nothing owed. -/
def dat0 (c : Dev nD) : Dat τ (Elt F) Unit ℕ UU ℕ (cfg0 a0) c where
  A w := V c (arrRef spec0 w)
  after w t := match w with
    | ⟨0, _⟩ => blk0 V a0 c 0 t
    | ⟨1, _⟩ => blk0 V a0 c 1 t
    | ⟨2, _⟩ => blk0 V a0 c 2 t
    | ⟨3, _⟩ => blk0 V a0 c 3 t
    | ⟨4, _⟩ => blk0 V a0 c 4 t
    | ⟨5, _⟩ => blk0 V a0 c 5 t
    | ⟨6, _⟩ => blk0 V a0 c 6 t
    | ⟨7, _⟩ => blk0 V a0 c 7 t
    | ⟨8, _⟩ => blk0 V a0 c 8 t
    | ⟨9, _⟩ => blk0 V a0 c 9 t
    | ⟨10, _⟩ => blk0 V a0 c 10 t
    | ⟨11, _⟩ => blk0 V a0 c 11 t
    | ⟨12, _⟩ => blk0 V a0 c 12 t
    | ⟨13, _⟩ => accAt V a0 c (t.val + 1)
    | ⟨_ + 14, h⟩ => absurd h (Nat.not_lt.2 (Nat.le_add_left _ _))
  Φ _ := iprop(scopedRest spec0 c ∗ prefHeld pre0 c (fun _ => fullShare) a0.1)
  q w := shareOf spec0 w
  owed _ := 0

/-- The kernel's arrays start at what the host left. -/
theorem dat0_A (c : Dev nD) (w : Fin 14) : (dat0 V a0 c).A w = V c (arrRef spec0 w) := by dsimp only [dat0]
/-- The share of each array the kernel holds. -/
theorem dat0_q (c : Dev nD) (w : Fin 14) : (dat0 V a0 c).q w = shareOf spec0 w := by dsimp only [dat0]

/-- An input window's buffer holds its block whenever the body runs. -/
theorem before0_in (c : Dev nD) (w : Fin 14) (hw : w ≠ 13) (t : Fin (cfg0 a0).N) (d) :
    (dat0 V a0 c).before w t d = blk0 V a0 c w t := by
  fin_cases w <;> first
    | exact absurd rfl hw
    | exact ((dat0 V a0 c).before_in_eq_fetched _ rfl (fun _ => rfl) (fun _ _ _ => rfl) (fun _ => rfl) t d).trans rfl

/-- A table's word, as the printed idle table writes it. -/
theorem word_eq_atD (pf : pre0.Contents (Elt F)) (off : Fin 2 → ℕ) (hoff : ∀ a, off a + S1x1.size a ≤ S4x51.size a) :
    word (F := F) (pf 2) off hoff = pf.atD 2 off := by
  have h1 : ∀ a : Fin 2, off a + 1 ≤ S4x51.size a := fun a => by
    have := hoff a; fin_cases a <;> exact this
  refine Eq.trans ?_ (dif_pos h1).symm
  refine congrArg (pf 2) (funext fun a => Fin.ext ?_)
  have hlt := (Shape.Idx.first (s := S1x1) (numel1_S1x1.symm ▸ Nat.one_pos) a).isLt
  have h0 : (Shape.Idx.first (s := S1x1) (numel1_S1x1.symm ▸ Nat.one_pos) a).val = 0 := by
    have h : S1x1.size a = 1 := by fin_cases a <;> rfl
    omega
  show off a + 1 * (Shape.Idx.first (s := S1x1) (numel1_S1x1.symm ▸ Nat.one_pos) a).val = off a
  omega

/-- At a point idle for the accumulator's window, the point leaves the accumulator as it was. -/
theorem step_idle (c : Dev nD) (t : Fin (cfg0 a0).N) (hi : (cfg0 a0).idle 13 (grid0.coords t) = true) (acc : Vec F S10112x128 .f32) :
    stepAt V a0 c t acc = acc := by
  have hi' : (!(k0_cond1 (grid0.coords t) == 1#1) && !(k0_cond2 (a0.1.atD 2 (k0_off1 (grid0.coords t))) == 1#1)
      && !(k0_cond3 (a0.1.atD 2 (k0_off7 (grid0.coords t))) == 1#1) && !(k0_cond4 (a0.1.atD 2 (k0_off10 (grid0.coords t))) == 1#1)
      && !(k0_cond5 (a0.1.atD 2 (k0_off13 (grid0.coords t))) == 1#1)) = true := hi
  rw [← word_eq_atD a0.1 _ (k0_off1_inb _), ← word_eq_atD a0.1 _ (k0_off7_inb _), ← word_eq_atD a0.1 _ (k0_off10_inb _),
    ← word_eq_atD a0.1 _ (k0_off13_inb _)] at hi'
  simp only [Bool.and_eq_true, Bool.not_eq_true', beq_eq_false_iff_ne, ne_eq] at hi'
  obtain ⟨⟨⟨⟨h1, h2⟩, h3⟩, h4⟩, h5⟩ := hi'
  unfold stepAt pointStep
  rw [laneStep_neg (hv := h5), laneStep_neg (hv := h4), laneStep_neg (hv := h3), laneStep_neg (hv := h2)]
  unfold initStep
  rw [if_neg h1]

/-- The first point is the first coordinate's. -/
theorem cond1_iff : ∀ t : Fin grid0.N, k0_cond1 (grid0.coords t) = 1#1 ↔ t.val = 0 := by decide +kernel

/-- The first point leaves the same whatever the accumulator held. -/
theorem step_first (c : Dev nD) (t : Fin (cfg0 a0).N) (ht : t.val = 0) (acc acc' : Vec F S10112x128 .f32) :
    stepAt V a0 c t acc = stepAt V a0 c t acc' := by
  unfold stepAt pointStep initStep
  rw [if_pos ((cond1_iff t).mpr ht), if_pos ((cond1_iff t).mpr ht)]

/-- The accumulator's window is written back at the last point only. -/
theorem flush0_13 (t : Fin (cfg0 a0).N) : ((cfg0 a0).win 13).flush t = true ↔ t.val + 1 = grid0.N := by
  rw [Window.flush_out _ rfl]
  exact ⟨fun h => h.elim id fun ⟨_, h⟩ => absurd rfl h, .inl⟩

/-- From the second point on, the accumulator's buffer holds something the body stored. -/
theorem fresh0_13 : ∀ n, n < (cfg0 a0).N → (cfg0 a0).fresh 13 n = decide (n = 0) := by
  intro n
  induction n with
  | zero => exact fun _ => rfl
  | succ n ih =>
    intro hn
    have hn' : n < (cfg0 a0).N := Nat.lt_of_succ_lt hn
    rw [Cfg.fresh_succ _ _ n hn', ih hn']
    have hfl : ((cfg0 a0).win 13).flush ⟨n, hn'⟩ = false := by
      rw [Bool.eq_false_iff]
      exact fun h => absurd ((flush0_13 a0 _).mp h) (Nat.ne_of_lt hn)
    rw [hfl, Bool.false_or, show decide (n + 1 = 0) = false from rfl, Bool.and_eq_false_iff]
    by_cases h0 : n = 0
    · left
      subst h0
      have h1 := (cond1_iff ⟨0, hn'⟩).mpr rfl
      show (!(k0_cond1 (grid0.coords ⟨0, hn'⟩) == 1#1) && _ && _ && _ && _) = false
      rw [h1]
      rfl
    · right; exact decide_eq_false h0

/-- After the first point the accumulator's buffer holds what the points before left. -/
theorem before0_13 (c : Dev nD) (t : Fin (cfg0 a0).N) (ht : t.val ≠ 0) (d) :
    (dat0 V a0 c).before 13 t d = accAt V a0 c t.val := by
  refine ((dat0 V a0 c).before_out_traj 13 rfl (fun _ _ => rfl) ?_ t.val t rfl d).trans ?_
  · intro t ht hi _
    show accAt V a0 c (t.val + 1) = accAt V a0 c (t.val - 1 + 1)
    rw [accAt_succ, step_idle V a0 c t hi, Nat.sub_add_cancel (Nat.pos_of_ne_zero ht)]
  · rw [fresh0_13 a0 t.val t.isLt, if_neg (by rw [decide_eq_false ht]; exact Bool.false_ne_true)]
    show accAt V a0 c (t.val - 1 + 1) = _
    rw [Nat.sub_add_cancel (Nat.pos_of_ne_zero ht)]

/-- The point's step from what the buffer really holds is the step from the trajectory. -/
theorem step_before (c : Dev nD) (t : Fin (cfg0 a0).N) (d) :
    stepAt V a0 c t ((dat0 V a0 c).before 13 t d) = accAt V a0 c (t.val + 1) := by
  rw [accAt_succ]
  by_cases ht : t.val = 0
  · exact step_first V a0 c t ht _ _
  · rw [before0_13 V a0 c t ht d]

/-- The staging buffer window `w` uses at point `t`. -/
abbrev stg0 (t : Fin (cfg0 a0).N) (w : Fin 14) := ((cfg0 a0).win w).stage ((cfg0 a0).slots t w)

/-- A window's staged block, opened. -/
theorem stg_open (c : Dev nD) (t : Fin (cfg0 a0).N) (w : Fin 14) :
    (iprop(∃ d, owns c.tc (stg0 a0 t w) fullShare ((dat0 V a0 c).before w t d)) : sProp 𝕄)
      ⊢ iprop(∃ d f, ⌜(stg0 a0 t w).view.read (Elt F) f = (dat0 V a0 c).before w t d⌝ ∗ pt c (stg0 a0 t w) f) := by
  iintro ⟨%d, H⟩
  iexists d
  unfold owns
  iexact H

/-- The body leaves an input window's block as it was. -/
theorem after0_in (c : Dev nD) (t : Fin (cfg0 a0).N) (w : Fin 14) (hw : w ≠ 13) : (dat0 V a0 c).after w t = blk0 V a0 c w t := by
  fin_cases w <;> first
    | exact absurd rfl hw
    | rfl

/-- Only the accumulator's window has idle points, none of them the first. -/
theorem idle0 (t : Fin (cfg0 a0).N) (w : Fin 14) (hi : (cfg0 a0).idle w ((cfg0 a0).grid.coords t) = true) : w = 13 ∧ t.val ≠ 0 := by
  have hw : w = 13 := by
    by_contra hw
    revert hi
    fin_cases w <;> first
      | exact absurd rfl hw
      | exact fun h => absurd h (Bool.false_ne_true)
  subst hw
  refine ⟨rfl, fun h0 => ?_⟩
  have h1 := (cond1_iff t).mpr h0
  have hi' : (!(k0_cond1 (grid0.coords t) == 1#1) && _ && _ && _ && _) = true := hi
  rw [h1] at hi'
  simp at hi'

/-- An idle point leaves what it found. -/
theorem idle_before (c : Dev nD) (t : Fin (cfg0 a0).N) (w : Fin 14) (hi : (cfg0 a0).idle w ((cfg0 a0).grid.coords t) = true) (d) :
    (dat0 V a0 c).after w t = (dat0 V a0 c).before w t d := by
  obtain ⟨hw, ht⟩ := idle0 a0 t w hi
  subst hw
  exact ((accAt_succ V a0 c t).trans (step_idle V a0 c t hi _)).trans (before0_13 V a0 c t ht d).symm

/-- A window's staged block after the point, handed back: at a point idle for the window as it was found. -/
theorem stg_close (c : Dev nD) (t : Fin (cfg0 a0).N) (w : Fin 14) :
    (iprop(∃ f, ⌜(stg0 a0 t w).view.read (Elt F) f = (dat0 V a0 c).after w t⌝ ∗ pt c (stg0 a0 t w) f) : sProp 𝕄) ⊢
      match (cfg0 a0).idle w ((cfg0 a0).grid.coords t) with
      | true =>
        match ((cfg0 a0).win w).flush t with
        | false => iprop(∃ d, owns c.tc (stg0 a0 t w) fullShare ((dat0 V a0 c).before w t d))
        | true => owns c.tc (stg0 a0 t w) fullShare ((dat0 V a0 c).after w t)
      | false => owns c.tc (stg0 a0 t w) fullShare ((dat0 V a0 c).after w t) := by
  have hafter : (iprop(∃ f, ⌜(stg0 a0 t w).view.read (Elt F) f = (dat0 V a0 c).after w t⌝ ∗ pt c (stg0 a0 t w) f) : sProp 𝕄)
      ⊢ owns c.tc (stg0 a0 t w) fullShare ((dat0 V a0 c).after w t) := by
    unfold owns
    iintro H
    iexact H
  cases hi : (cfg0 a0).idle w ((cfg0 a0).grid.coords t)
  · exact hafter
  · cases hfl : ((cfg0 a0).win w).flush t
    · dsimp only
      refine hafter.trans ?_
      iintro H
      iexists ((dat0 V a0 c).after w t)
      rw [← idle_before V a0 c t w hi ((dat0 V a0 c).after w t)]
      iexact H
    · exact hafter

/-- All the windows' blocks after the point, handed back. -/
theorem stg_close_all (c : Dev nD) (t : Fin (cfg0 a0).N) :
    (bigSep Finset.univ fun w : Fin 14 => iprop(∃ f, ⌜(stg0 a0 t w).view.read (Elt F) f = (dat0 V a0 c).after w t⌝ ∗ pt c (stg0 a0 t w) f) : sProp 𝕄) ⊢
      bigSep Finset.univ fun w : Fin 14 =>
      match (cfg0 a0).idle w ((cfg0 a0).grid.coords t) with
      | true =>
        match ((cfg0 a0).win w).flush t with
        | false => iprop(∃ d, owns c.tc (stg0 a0 t w) fullShare ((dat0 V a0 c).before w t d))
        | true => owns c.tc (stg0 a0 t w) fullShare ((dat0 V a0 c).after w t)
      | false => owns c.tc (stg0 a0 t w) fullShare ((dat0 V a0 c).after w t) :=
  bigSep_mono fun w _ => stg_close V a0 c t w

/-- The prefetched tables, one by one. -/
theorem prefHeld0 (c : Dev nD) (G : pre0.Contents (Elt F)) :
    (prefHeld pre0 c (fun _ => fullShare) G : sProp 𝕄)
      = iprop(pt c (Memref.whole main_v36) (G 0) ∗ pt c (Memref.whole main_v37) (G 1) ∗ pt c (Memref.whole main_v38) (G 2)) := by
  unfold Pipeline.prefHeld
  rw [show (Finset.univ : Finset (Fin 3)) = insert 0 (insert 1 {2}) from by decide, bigSep_insert (by decide), bigSep_insert (by decide), bigSep_singleton]
  unfold pt
  simp only [Memref.view_whole, View.set_whole]
  rfl

set_option maxHeartbeats 2000000 in
/-- The body at every point: from the tables and the staged blocks to the staged blocks. -/
theorem body_obligation0 (c : Dev nD) (hchk : ChkAt (F := F) (a0.1 1) (a0.1 2)) :
    BodyObligation (dat0 V a0 c) (defs₀ (F := F)) Variants.none () Set.univ := fun t => by
  have hΦ : ∀ k, (dat0 V a0 c).Φ k = iprop(scopedRest spec0 c ∗ prefHeld pre0 c (fun _ => fullShare) a0.1) := fun _ => rfl
  rw [hΦ, hΦ, prefHeld0]
  unfold Dat.owesAt Pipeline.owesWithin
  have hO : ∀ k, (dat0 V a0 c).owed k = 0 := fun _ => rfl
  rw [hO, hO]
  refine (sep_mono .rfl (sep_mono .rfl ((bigSep_mono fun w _ => stg_open V a0 c t w).trans (Entails.of_eq (bigSep_W0 _))))).trans ?_
  iintro ⟨⟨Hrest, HT0, HT1, HT2⟩, ⟨%W, %hW, HO⟩, ⟨%dg0, %g0, %hg0, HI0⟩, ⟨%dg1, %g1, %hg1, HI1⟩, ⟨%dg2, %g2, %hg2, HI2⟩, ⟨%dg3, %g3, %hg3, HI3⟩, ⟨%dr0, %r0, %hr0, HR0⟩, ⟨%dr1, %r1, %hr1, HR1⟩, ⟨%dr2, %r2, %hr2, HR2⟩, ⟨%dr3, %r3, %hr3, HR3⟩, ⟨%dm0, %m0, %hm0, HM0⟩, ⟨%dm1, %m1, %hm1, HM1⟩, ⟨%dm2, %m2, %hm2, HM2⟩, ⟨%dm3, %m3, %hm3, HM3⟩, ⟨%dw, %w, %hw, HW⟩, ⟨%d, %fO, %hfO, HA⟩⟩
  replace hg0 := hg0.trans (before0_in V a0 c 0 (by decide) t dg0)
  replace hg1 := hg1.trans (before0_in V a0 c 1 (by decide) t dg1)
  replace hg2 := hg2.trans (before0_in V a0 c 2 (by decide) t dg2)
  replace hg3 := hg3.trans (before0_in V a0 c 3 (by decide) t dg3)
  replace hr0 := hr0.trans (before0_in V a0 c 4 (by decide) t dr0)
  replace hr1 := hr1.trans (before0_in V a0 c 5 (by decide) t dr1)
  replace hr2 := hr2.trans (before0_in V a0 c 6 (by decide) t dr2)
  replace hr3 := hr3.trans (before0_in V a0 c 7 (by decide) t dr3)
  replace hm0 := hm0.trans (before0_in V a0 c 8 (by decide) t dm0)
  replace hm1 := hm1.trans (before0_in V a0 c 9 (by decide) t dm1)
  replace hm2 := hm2.trans (before0_in V a0 c 10 (by decide) t dm2)
  replace hm3 := hm3.trans (before0_in V a0 c 11 (by decide) t dm3)
  replace hw := hw.trans (before0_in V a0 c 12 (by decide) t dw)
  iapply (body_run c (grid0.coords t) (Memref.whole main_v36) (Memref.isWhole_whole _) (Memref.whole main_v37) (Memref.isWhole_whole _) (Memref.whole main_v38) (Memref.isWhole_whole _) (stg0 a0 t 0) (stage_whole0 0 ((cfg0 a0).slots t 0)) (stg0 a0 t 1) (stage_whole0 1 ((cfg0 a0).slots t 1)) (stg0 a0 t 2) (stage_whole0 2 ((cfg0 a0).slots t 2)) (stg0 a0 t 3) (stage_whole0 3 ((cfg0 a0).slots t 3)) (stg0 a0 t 4) (stage_whole0 4 ((cfg0 a0).slots t 4)) (stg0 a0 t 5) (stage_whole0 5 ((cfg0 a0).slots t 5)) (stg0 a0 t 6) (stage_whole0 6 ((cfg0 a0).slots t 6)) (stg0 a0 t 7) (stage_whole0 7 ((cfg0 a0).slots t 7)) (stg0 a0 t 8) (stage_whole0 8 ((cfg0 a0).slots t 8)) (stg0 a0 t 9) (stage_whole0 9 ((cfg0 a0).slots t 9)) (stg0 a0 t 10) (stage_whole0 10 ((cfg0 a0).slots t 10)) (stg0 a0 t 11) (stage_whole0 11 ((cfg0 a0).slots t 11)) (stg0 a0 t 12) (stage_whole0 12 ((cfg0 a0).slots t 12)) (stg0 a0 t 13) (stage_whole0 13 ((cfg0 a0).slots t 13))
    (a0.1 0) (a0.1 1) (a0.1 2) g0 g1 g2 g3 r0 r1 r2 r3 m0 m1 m2 m3 w fO hchk)
  isplitl [HT1]; · iexact HT1
  isplitl [HT2]; · iexact HT2
  isplitl [HI0]; · iexact HI0
  isplitl [HI1]; · iexact HI1
  isplitl [HI2]; · iexact HI2
  isplitl [HI3]; · iexact HI3
  isplitl [HR0]; · iexact HR0
  isplitl [HR1]; · iexact HR1
  isplitl [HR2]; · iexact HR2
  isplitl [HR3]; · iexact HR3
  isplitl [HM0]; · iexact HM0
  isplitl [HM1]; · iexact HM1
  isplitl [HM2]; · iexact HM2
  isplitl [HM3]; · iexact HM3
  isplitl [HW]; · iexact HW
  isplitl [HA]; · iexact HA
  iintro ⟨HT1, HT2, HI0, HI1, HI2, HI3, HR0, HR1, HR2, HR3, HM0, HM1, HM2, HM3, HW, ⟨%gO, %hgO, HA⟩⟩
  isplitl [Hrest HT0 HT1 HT2]
  · isplitl [Hrest]; · iexact Hrest
    isplitl [HT0]; · iexact HT0
    isplitl [HT1]; · iexact HT1
    iexact HT2
  isplitl [HO]
  · iexists W; isplitr; · ipureintro; exact fun _ _ => Or.inl trivial
    iexact HO
  iapply (stg_close_all V a0 c t)
  rw [bigSep_W0]
  isplitl [HI0]; · iexists g0; isplitr; (· ipureintro; exact hg0.trans (after0_in V a0 c t 0 (by decide)).symm); iexact HI0
  isplitl [HI1]; · iexists g1; isplitr; (· ipureintro; exact hg1.trans (after0_in V a0 c t 1 (by decide)).symm); iexact HI1
  isplitl [HI2]; · iexists g2; isplitr; (· ipureintro; exact hg2.trans (after0_in V a0 c t 2 (by decide)).symm); iexact HI2
  isplitl [HI3]; · iexists g3; isplitr; (· ipureintro; exact hg3.trans (after0_in V a0 c t 3 (by decide)).symm); iexact HI3
  isplitl [HR0]; · iexists r0; isplitr; (· ipureintro; exact hr0.trans (after0_in V a0 c t 4 (by decide)).symm); iexact HR0
  isplitl [HR1]; · iexists r1; isplitr; (· ipureintro; exact hr1.trans (after0_in V a0 c t 5 (by decide)).symm); iexact HR1
  isplitl [HR2]; · iexists r2; isplitr; (· ipureintro; exact hr2.trans (after0_in V a0 c t 6 (by decide)).symm); iexact HR2
  isplitl [HR3]; · iexists r3; isplitr; (· ipureintro; exact hr3.trans (after0_in V a0 c t 7 (by decide)).symm); iexact HR3
  isplitl [HM0]; · iexists m0; isplitr; (· ipureintro; exact hm0.trans (after0_in V a0 c t 8 (by decide)).symm); iexact HM0
  isplitl [HM1]; · iexists m1; isplitr; (· ipureintro; exact hm1.trans (after0_in V a0 c t 9 (by decide)).symm); iexact HM1
  isplitl [HM2]; · iexists m2; isplitr; (· ipureintro; exact hm2.trans (after0_in V a0 c t 10 (by decide)).symm); iexact HM2
  isplitl [HM3]; · iexists m3; isplitr; (· ipureintro; exact hm3.trans (after0_in V a0 c t 11 (by decide)).symm); iexact HM3
  isplitl [HW]; · iexists w; isplitr; (· ipureintro; exact hw.trans (after0_in V a0 c t 12 (by decide)).symm); iexact HW
  iexists gO; isplitr; swap; (· iexact HA)
  ipureintro
  refine hgO.trans ?_
  rw [hg0, hg1, hg2, hg3, hr0, hr1, hr2, hr3, hm0, hm1, hm2, hm3, hw, hfO]
  exact step_before V a0 c t d

end Cert.KernelIdeal.Run
end
-- ==== Proof.Ideal.Region1.lean ====
module

public import proofs.«01_k».proof.Proof.Ideal.Body0
public import proofs.«01_k».proof.Proof.Gen.KernelIdeal.Launch
public import proofs.«01_k».proof.Proof.Gen.KernelIdeal.Points
public import Idealize.ShloMosaic.Lib.Pipeline.TableIdle

@[expose] public section

set_option maxRecDepth 16384

noncomputable section

namespace Cert.KernelIdeal.Run

open Cert.KernelIdeal Cert.KernelIdeal.Gen
open Idealize.ShloMosaic Idealize.ShloMosaic.Pipeline
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What the second kernel computes of one block of rows: the dense layer and the two residual layers. -/
def mlpBlock (x : Vec F S1264x128 .f32) (w1 wa wb wc wd : Vec F S128x128 .f32) : Vec F S1264x128 .f32 :=
  k1_pay1 (k1_pay2 x w1 wa wb) (k1_pay3 x w1 wa wb wc wd)

/-- The second kernel's body, run: the output block is left at `mlpBlock` of the staged operands. -/
theorem body_run1 (c : Dev nD) (i : grid1.Coords) (a1 : Memref sig .tc .vmem S1264x128 .f32) (h1 : a1.IsWhole) (a2 : Memref sig .tc .vmem S128x128 .f32) (h2 : a2.IsWhole) (a3 : Memref sig .tc .vmem S128x128 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S1264x128 .f32) (h7 : a7.IsWhole)
    (x : Bf (F := F) c a1) (w1 : Bf (F := F) c a2) (wa : Bf (F := F) c a3) (wb : Bf (F := F) c a4) (wc : Bf (F := F) c a5) (wd : Bf (F := F) c a6) (fO : Bf (F := F) c a7) (Q : PUnit → sProp 𝕄) :
    iprop(pt c a1 x ∗ pt c a2 w1 ∗ pt c a3 wa ∗ pt c a4 wb ∗ pt c a5 wc ∗ pt c a6 wd ∗ pt c a7 fO
      ∗ (iprop(pt c a1 x ∗ pt c a2 w1 ∗ pt c a3 wa ∗ pt c a4 wb ∗ pt c a5 wc ∗ pt c a6 wd ∗ ∃ gO, ⌜a7.view.read (Elt F) gO = mlpBlock (a1.view.read (Elt F) x) (a2.view.read (Elt F) w1) (a3.view.read (Elt F) wa) (a4.view.read (Elt F) wb) (a5.view.read (Elt F) wc) (a6.view.read (Elt F) wd)⌝ ∗ pt c a7 gO) -∗ Q ⟨⟩))
    ⊢ wp frame (wpE (defs₀ (F := F)) Variants.none c none) Set.univ
        (cc1__mlp_kernel (F := F) i a1 h1 a2 h2 a3 h3 a4 h4 a5 h5 a6 h6 a7 h7) Q := by
  rw [cc1__mlp_kernel_eq_skeleton]
  iintro ⟨HX, H1, HA, HB, HC, HD, HO, Hk⟩
  sl_unfold [cc1__mlp_kernel_skel]
  rw [k1_part1_eq_skeleton]
  sl_unfold [k1_part1_skel]
  sl_exec
  sl_step
  iapply Hk
  isplitl [HX]; · iexact HX
  isplitl [H1]; · iexact H1
  isplitl [HA]; · iexact HA
  isplitl [HB]; · iexact HB
  isplitl [HC]; · iexact HC
  isplitl [HD]; · iexact HD
  iexists _; isplitr; swap; (· iexact HO)
  ipureintro
  sl_unfold_words
  refine (View.read_writes_full a7.view fO inb_S1264x128_S1264x128_0_0 _ []).trans ?_
  simp only [View.readAt_eq_ld, View.ld_unit_zero (S := S1264x128) hz2, View.ld_unit_zero (S := S128x128) hz2]
  rfl

variable (V : Dev nD → Valuation τ sig (Elt F))

/-- The block of window `w`'s array that point `t` reads. -/
abbrev blk1 (c : Dev nD) (w : Fin 7) (t : Fin cfg1.N) : (cfg1.win w).block.Idx → Elt F (cfg1.win w).elt :=
  match w with
  | ⟨0, _⟩ => ((cfg1.win 0).blk t).view.read (Elt F) (V c (arrRef spec1 0))
  | ⟨1, _⟩ => ((cfg1.win 1).blk t).view.read (Elt F) (V c (arrRef spec1 1))
  | ⟨2, _⟩ => ((cfg1.win 2).blk t).view.read (Elt F) (V c (arrRef spec1 2))
  | ⟨3, _⟩ => ((cfg1.win 3).blk t).view.read (Elt F) (V c (arrRef spec1 3))
  | ⟨4, _⟩ => ((cfg1.win 4).blk t).view.read (Elt F) (V c (arrRef spec1 4))
  | ⟨5, _⟩ => ((cfg1.win 5).blk t).view.read (Elt F) (V c (arrRef spec1 5))
  | ⟨6, _⟩ => ((cfg1.win 6).blk t).view.read (Elt F) (V c (arrRef spec1 6))
  | ⟨_ + 7, h⟩ => absurd h (Nat.not_lt.2 (Nat.le_add_left _ _))

/-- The second kernel's proof data: the arrays as the region finds them, the operands' blocks left in place, the output's
    block at what the kernel computes, nothing owed. -/
def dat1 (c : Dev nD) : Dat τ (Elt F) Unit ℕ UU ℕ cfg1 c where
  A w := V c (arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => mlpBlock (blk1 V c 0 t) (blk1 V c 1 t) (blk1 V c 2 t) (blk1 V c 3 t) (blk1 V c 4 t) (blk1 V c 5 t)
    | ⟨_ + 7, h⟩ => absurd h (Nat.not_lt.2 (Nat.le_add_left _ _))
  Φ _ := scopedRest spec1 c
  q _ := fullShare
  owed _ := 0

/-- The arrays are the entry contents. -/
theorem dat1_A (c : Dev nD) (w : Fin 7) : (dat1 V c).A w = V c (arrRef spec1 w) := by dsimp only [dat1]

/-- An operand window's buffer holds its block whenever the body runs. -/
theorem before1_in (c : Dev nD) (w : Fin 7) (hw : w ≠ 6) (t : Fin cfg1.N) (d) :
    (dat1 V c).before w t d = blk1 V c w t := by
  fin_cases w <;> first
    | exact absurd rfl hw
    | exact ((dat1 V c).before_in_eq_fetched _ rfl (fun _ => rfl) (fun _ _ _ => rfl) (fun _ => rfl) t d).trans rfl

/-- The body leaves an operand window's block as it was. -/
theorem after1_in (c : Dev nD) (t : Fin cfg1.N) (w : Fin 7) (hw : w ≠ 6) : (dat1 V c).after w t = blk1 V c w t := by
  fin_cases w <;> first
    | exact absurd rfl hw
    | rfl

/-- The staging buffer window `w` uses at point `t`. -/
abbrev stg1 (t : Fin cfg1.N) (w : Fin 7) := (cfg1.win w).stage (cfg1.slots t w)

/-- A window's staged block, opened. -/
theorem stg1_open (c : Dev nD) (t : Fin cfg1.N) (w : Fin 7) :
    (iprop(∃ d, owns c.tc (stg1 t w) fullShare ((dat1 V c).before w t d)) : sProp 𝕄)
      ⊢ iprop(∃ d f, ⌜(stg1 t w).view.read (Elt F) f = (dat1 V c).before w t d⌝ ∗ pt c (stg1 t w) f) := by
  iintro ⟨%d, H⟩
  iexists d
  unfold owns
  iexact H

/-- A window's staged block after the point, handed back. -/
theorem stg1_close_all (c : Dev nD) (t : Fin cfg1.N) :
    (bigSep Finset.univ fun w : Fin 7 => iprop(∃ f, ⌜(stg1 t w).view.read (Elt F) f = (dat1 V c).after w t⌝ ∗ pt c (stg1 t w) f) : sProp 𝕄) ⊢
      bigSep Finset.univ fun w : Fin 7 =>
      match cfg1.idle w (cfg1.grid.coords t) with
      | true =>
        match (cfg1.win w).flush t with
        | false => iprop(∃ d, owns c.tc (stg1 t w) fullShare ((dat1 V c).before w t d))
        | true => owns c.tc (stg1 t w) fullShare ((dat1 V c).after w t)
      | false => owns c.tc (stg1 t w) fullShare ((dat1 V c).after w t) := by
  refine bigSep_mono fun w _ => ?_
  show _ ⊢ owns c.tc (stg1 t w) fullShare ((dat1 V c).after w t)
  unfold owns
  exact .rfl

set_option maxHeartbeats 1000000 in
/-- The second kernel's body at every point. -/
theorem body_obligation1 (c : Dev nD) : BodyObligation (dat1 V c) (defs₀ (F := F)) Variants.none () Set.univ := fun t => by
  have hΦ : ∀ k, (dat1 V c).Φ k = scopedRest spec1 c := fun _ => rfl
  rw [hΦ, hΦ]
  unfold Dat.owesAt Pipeline.owesWithin
  have hO : ∀ k, (dat1 V c).owed k = 0 := fun _ => rfl
  rw [hO, hO]
  refine (sep_mono .rfl (sep_mono .rfl ((bigSep_mono fun w _ => stg1_open V c t w).trans (Entails.of_eq (bigSep_W1 _))))).trans ?_
  iintro ⟨Hrest, ⟨%W, %hW, HO⟩, ⟨%dx, %x, %hx, HX⟩, ⟨%dw1, %w1, %hw1, H1⟩, ⟨%dwa, %wa, %hwa, HA⟩, ⟨%dwb, %wb, %hwb, HB⟩, ⟨%dwc, %wc, %hwc, HC⟩, ⟨%dwd, %wd, %hwd, HD⟩, ⟨%d, %fO, %hfO, HG⟩⟩
  replace hx := hx.trans (before1_in V c 0 (by decide) t dx)
  replace hw1 := hw1.trans (before1_in V c 1 (by decide) t dw1)
  replace hwa := hwa.trans (before1_in V c 2 (by decide) t dwa)
  replace hwb := hwb.trans (before1_in V c 3 (by decide) t dwb)
  replace hwc := hwc.trans (before1_in V c 4 (by decide) t dwc)
  replace hwd := hwd.trans (before1_in V c 5 (by decide) t dwd)
  iapply (body_run1 c (grid1.coords t) (stg1 t 0) (stage_whole1 0 (cfg1.slots t 0)) (stg1 t 1) (stage_whole1 1 (cfg1.slots t 1)) (stg1 t 2) (stage_whole1 2 (cfg1.slots t 2)) (stg1 t 3) (stage_whole1 3 (cfg1.slots t 3)) (stg1 t 4) (stage_whole1 4 (cfg1.slots t 4)) (stg1 t 5) (stage_whole1 5 (cfg1.slots t 5)) (stg1 t 6) (stage_whole1 6 (cfg1.slots t 6))
    x w1 wa wb wc wd fO)
  isplitl [HX]; · iexact HX
  isplitl [H1]; · iexact H1
  isplitl [HA]; · iexact HA
  isplitl [HB]; · iexact HB
  isplitl [HC]; · iexact HC
  isplitl [HD]; · iexact HD
  isplitl [HG]; · iexact HG
  iintro ⟨HX, H1, HA, HB, HC, HD, ⟨%gO, %hgO, HG⟩⟩
  isplitl [Hrest]; · iexact Hrest
  isplitl [HO]
  · iexists W; isplitr; · ipureintro; exact fun _ _ => Or.inl trivial
    iexact HO
  iapply (stg1_close_all V c t)
  rw [bigSep_W1]
  isplitl [HX]; · iexists x; isplitr; (· ipureintro; exact hx.trans (after1_in V c t 0 (by decide)).symm); iexact HX
  isplitl [H1]; · iexists w1; isplitr; (· ipureintro; exact hw1.trans (after1_in V c t 1 (by decide)).symm); iexact H1
  isplitl [HA]; · iexists wa; isplitr; (· ipureintro; exact hwa.trans (after1_in V c t 2 (by decide)).symm); iexact HA
  isplitl [HB]; · iexists wb; isplitr; (· ipureintro; exact hwb.trans (after1_in V c t 3 (by decide)).symm); iexact HB
  isplitl [HC]; · iexists wc; isplitr; (· ipureintro; exact hwc.trans (after1_in V c t 4 (by decide)).symm); iexact HC
  isplitl [HD]; · iexists wd; isplitr; (· ipureintro; exact hwd.trans (after1_in V c t 5 (by decide)).symm); iexact HD
  iexists gO; isplitr; swap; (· iexact HG)
  ipureintro
  refine hgO.trans ?_
  rw [hx, hw1, hwa, hwb, hwc, hwd]
  rfl

end Cert.KernelIdeal.Run
end
-- ==== Proof.Ideal.Run.lean ====
module

public import proofs.«01_k».proof.Proof.Ideal.Region0
public import proofs.«01_k».proof.Proof.Ideal.Region1
public import proofs.«01_k».proof.Proof.Gen.KernelIdeal.Regions
public import Idealize.ShloMosaic.Lib.Pipeline.RegionArrays

@[expose] public section

set_option maxRecDepth 16384

noncomputable section

namespace Cert.KernelIdeal.Run

open Cert.KernelIdeal Cert.KernelIdeal.Gen
open Idealize.ShloMosaic Idealize.ShloMosaic.Pipeline
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The one device. -/
abbrev d0 : Dev nD := ⟨0, by decide⟩

/-- The three tables the host operations compute. -/
def tables : pre0.Contents (Elt F) := fun k => V7 m d0 (pre0.ref k)

/-- What the tables must satisfy: every block they name lies inside its array, every tile inside the accumulator. -/
structure Good : Prop where
  ok : ok0 (tables m)
  chk : ChkAt (F := F) (tables m 1) (tables m 2)

variable {m} (h : Good m)

/-- The tables, admissible. -/
abbrev adm0 : (pcfg0 (F := F)).Adm := ⟨tables m, h.ok⟩

/-- Both kernels' admissible tables; the second has none. -/
def aa : (p : Fin 2) → (pcfgs (F := F) p).Adm
  | 0 => adm0 h
  | 1 => cfg1.toPCfg_adm
  | ⟨_ + 2, hp⟩ => absurd hp (Nat.not_lt.2 (Nat.le_add_left _ _))

/-- What the first kernel leaves in its result. -/
def out0 (c : Dev nD) : Buf (Elt F) ((c : Thread nD τ).loc main_v39) := (dat0 (V7 m) (adm0 h) c).arrAt 13 (cfg0 (adm0 h)).N

/-- The first kernel's result, as the valuations take it. -/
def outsA : Outs (F := F) := fun _ r c =>
  if hr : r = main_v39 then hr ▸ out0 h c else m ((c : Thread nD τ).loc r)

/-- What the second kernel leaves in its result. -/
def out1 (c : Dev nD) : Buf (Elt F) ((c : Thread nD τ).loc main_v42) := (dat1 (V9 m (outsA h)) c).arrAt 6 cfg1.N

/-- Both kernels' results, as the valuations take them. -/
def outs : Outs (F := F) := fun k r c =>
  if hr : r = main_v42 then hr ▸ out1 h c else outsA h k r c

/-- The first kernel's result among the values. -/
theorem outsA_v39 (c : Dev nD) : outsA h 8 main_v39 c = out0 h c := by
  unfold outsA; rw [dif_pos rfl]

/-- The same among the values of both kernels. -/
theorem outs_v39 (c : Dev nD) : outs h 8 main_v39 c = out0 h c := by
  unfold outs; rw [dif_neg (by decide)]; exact outsA_v39 h c

/-- The second kernel's result among the values. -/
theorem outs_v42 (c : Dev nD) : outs h 10 main_v42 c = out1 h c := by
  unfold outs; rw [dif_pos rfl]

/-- The buffers after the first kernel do not depend on the second kernel's result. -/
theorem V8_eq (c : Dev nD) : V8 m (outs h) c = V8 m (outsA h) c := by
  unfold V8; rw [outs_v39, outsA_v39]

/-- Nor do the buffers the second kernel starts from. -/
theorem V9_eq (c : Dev nD) : V9 m (outs h) c = V9 m (outsA h) c := by
  unfold V9; rw [V8_eq]

/-- The proof data of both kernels. -/
def pdats : (p : Fin 2) → (c : Dev nD) → Dat τ (Elt F) Unit ℕ UU ℕ (pin (pcfgs (F := F)) (aa h) p) c
  | 0 => fun c => dat0 (V7 m) (adm0 h) c
  | 1 => fun c => dat1 (V9 m (outsA h)) c
  | ⟨_ + 2, hp⟩ => absurd hp (Nat.not_lt.2 (Nat.le_add_left _ _))

/-- No level is assigned: no core owes another anything. -/
abbrev L : GSem nD τ sig → Finset Unit := fun _ => ∅
/-- The level of a wait: none is used. -/
abbrev lv : GSem nD τ sig → Unit → ℕ := fun _ _ => 0

/-- What rides beside the buffers: what the core owes, nothing. -/
abbrev R (c : Dev nD) : sProp 𝕄 := iprop(∃ W, owes (c : Thread nD τ) (0 : CellTallies nD τ sig Unit) W)

/-- The tables read on any device are those of the one device. -/
theorem tables_eq (c : Dev nD) : (fun k => V7 m c (pre0.ref k)) = tables m := by
  rw [show c = d0 from Subsingleton.elim _ _]; rfl

/-- Only the last window of the first kernel names its result. -/
theorem ref0_ne : ∀ w : Fin 14, w ≠ 13 → arrRef spec0 w ∉ ([main_v39] : List (Ref sig .tc)) := by decide

/-- Only the last window of the second kernel names its result. -/
theorem ref1_ne : ∀ w : Fin 7, w ≠ 6 → arrRef spec1 w ∉ ([main_v42] : List (Ref sig .tc)) := by decide

/-- The first kernel's result is one of its arrays. -/
theorem v39_mem : main_v39 ∈ Finset.univ.image (arrRef spec0) := by decide

/-- The second kernel's result is one of its arrays. -/
theorem v42_mem : main_v42 ∈ Finset.univ.image (arrRef spec1) := by decide

/-- The first kernel's arrays after it: its result new, the operands as they were. -/
theorem arr0_final (c : Dev nD) (w : Fin 14) :
    (dat0 (V7 m) (adm0 h) c).arrAt w (cfg0 (adm0 h)).N = V8 m (outs h) c (arrRef spec0 w) := by
  by_cases hw : w = 13
  · subst hw
    show out0 h c = Function.update (V7 m c) main_v39 (outs h 8 main_v39 c) main_v39
    rw [Function.update_self, outs_v39]
  · have hin : ((cfg0 (adm0 h)).win w).isOut = false := by
      fin_cases w <;> first
        | exact absurd rfl hw
        | rfl
    have hne : arrRef spec0 w ∉ ([main_v39] : List (Ref sig .tc)) := ref0_ne w hw
    exact ((dat0 (V7 m) (adm0 h) c).arrAt_in w hin _).trans ((dat0_A _ _ c w).trans (V8_of m (outs h) c _ hne).symm)

/-- The second kernel's arrays after it: its result new, the operands as they were. -/
theorem arr1_final (c : Dev nD) (w : Fin 7) :
    (dat1 (V9 m (outsA h)) c).arrAt w cfg1.N = V10 m (outs h) c (arrRef spec1 w) := by
  by_cases hw : w = 6
  · subst hw
    show out1 h c = Function.update (V9 m (outs h) c) main_v42 (outs h 10 main_v42 c) main_v42
    rw [Function.update_self, outs_v42]
  · have hin : (cfg1.win w).isOut = false := by
      fin_cases w <;> first
        | exact absurd rfl hw
        | rfl
    have hne : arrRef spec1 w ∉ ([main_v42] : List (Ref sig .tc)) := ref1_ne w hw
    refine ((dat1 (V9 m (outsA h)) c).arrAt_in w hin _).trans ((dat1_A _ c w).trans ?_)
    rw [V10_of m (outs h) c _ hne, V9_eq]

set_option backward.isDefEq.respectTransparency.types false in
/-- The first kernel as a segment of the program: its operands and tables taken out of the host's buffers, its result put
    back. -/
def reg0 : RegionSeg (pcfgs (F := F)) (aa h) (pdats h) () defs₀ Variants.none L lv 0 where
  win := winFacts₀0
  block_pos := block_pos0
  stage_whole := stage_whole0
  K := PEmpty
  osem := fun k => k.elim
  ho := OwnSemFacts.none _
  hbody c := (body_obligation0 (V7 m) (adm0 h) c h.chk).loose
  hwaits := Pipeline.hwaits_of_owed_zero _ _ _ _ L lv 0 fun _ _ => rfl
  pre c := iprop(StableHlo.held (c : Thread nD τ) (ucRefs τ sig) (V7 m c) ∗ R c)
  post c := iprop(StableHlo.held (c : Thread nD τ) (ucRefs τ sig) (V8 m (outs h) c) ∗ R c)
  X c := iprop(emp)
  Y c := prefHeld pre0 c (fun _ => fullShare) (tables m)
  Z c := unscopedRestP pre0 spec0 c (fun b => V7 m c b)
  hentry c := by
    rw [← Pipeline.unscopedBufs_held c (V7 m c)]
    have hsplit := (Pipeline.arrays_of_unscopedBufs_shared (pcfgs (F := F)) (aa h) (pdats h) (p := 0) winFacts₀0 sharedIn0 arr_whole0 c
      (fun w _ => dat0_q (V7 m) (adm0 h) c w) (fun b => V7 m c b) (dat0_A (V7 m) (adm0 h) c)).trans
      (sep_mono .rfl (Entails.of_eq (unscopedRest_split preFacts0 c (fun b => V7 m c b))))
    rw [tables_eq c] at hsplit
    iintro ⟨⟨Hub, HO⟩, -, -⟩
    ihave H := hsplit $$ Hub
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    show _ ⊢ iprop(scopedRest spec0 c ∗ prefHeld pre0 c (fun _ => fullShare) (tables m))
    iintro ⟨-, Hp, Hr⟩
    isplitl [Hr]; · iexact Hr
    iexact Hp
  hout c := by
    rw [ownSems0_none]
    show iprop(scopedRest spec0 c ∗ prefHeld pre0 c (fun _ => fullShare) (tables m)) ⊢ _
    iintro ⟨Hr, Hp⟩
    isplitl [Hp]; · iexact Hp
    isplitr; · iempintro
    iexact Hr
  hexit c := by
    have hjoin := Pipeline.unscopedBufs_of_arrays_shared (pcfgs (F := F)) (aa h) (p := 0) winFacts₀0 sharedIn0 arr_whole0 c (pdats h)
      (fun w _ => dat0_q (V7 m) (adm0 h) c w) (fun b => V7 m c b) (fun b => V8 m (outs h) c b)
      (fun w => (dat0 (V7 m) (adm0 h) c).arrAt w (cfg0 (adm0 h)).N) (arr0_final h c)
      (fun b hb => V8_of m (outs h) c b fun hm => hb (by
        rw [List.mem_singleton] at hm; subst hm; exact v39_mem))
    have hsp := unscopedRest_split (Ix := Unit) (Name := ℕ) (U := UU) (Lvl := ℕ) preFacts0 c (fun b => V7 m c b)
    rw [tables_eq c] at hsp
    rw [← Pipeline.unscopedBufs_held c (V8 m (outs h) c)]
    iintro ⟨Ha, HO, HY, HZ⟩
    imodintro
    isplitr [HO]
    · iapply hjoin
      isplitl [Ha]; · iexact Ha
      iapply (Entails.of_eq hsp.symm)
      isplitl [HY]; · iexact HY
      iexact HZ
    · unfold Pipeline.Dat.owesAt Pipeline.owesWithin
      icases HO with ⟨%W, -, HO⟩; iexists W; iexact HO

set_option backward.isDefEq.respectTransparency.types false in
/-- The second kernel as a segment of the program. -/
def reg1 : RegionSeg (pcfgs (F := F)) (aa h) (pdats h) () defs₀ Variants.none L lv 1 where
  win := launch1.win.to₀
  block_pos := block_pos1
  stage_whole := stage_whole1
  K := PEmpty
  osem := fun k => k.elim
  ho := OwnSemFacts.none _
  hbody c := (body_obligation1 (V9 m (outsA h)) c).loose
  hwaits := Pipeline.hwaits_of_owed_zero _ _ _ _ L lv 1 fun _ _ => rfl
  pre c := iprop(StableHlo.held (c : Thread nD τ) (ucRefs τ sig) (V9 m (outs h) c) ∗ R c)
  post c := iprop(StableHlo.held (c : Thread nD τ) (ucRefs τ sig) (V10 m (outs h) c) ∗ R c)
  X c := iprop(emp)
  Y c := iprop(emp)
  Z c := unscopedRest spec1 c (fun b => V9 m (outs h) c b)
  hentry c := by
    rw [← Pipeline.unscopedBufs_held c (V9 m (outs h) c), Idealize.ShloMosaic.Pipeline.prefHeld_of_none _ rfl]
    have hsplit := Pipeline.arrays_of_unscopedBufs (pcfgs (F := F)) (aa h) (pdats h) (p := 1) winFacts1 arr_whole1 c
      ((pdats h 1 c).share_full fun _ => rfl) (fun b => V9 m (outs h) c b)
      (fun w => (dat1_A (V9 m (outsA h)) c w).trans (by rw [V9_eq]; rfl))
    iintro ⟨⟨Hub, HO⟩, -, -⟩
    ihave H := hsplit $$ Hub
    icases H with ⟨Ha, Hz⟩
    imodintro
    isplitl [Ha]; · iexact Ha
    isplitr; · iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    show _ ⊢ (scopedRest spec1 c : sProp 𝕄)
    iintro ⟨-, -, Hr⟩
    iexact Hr
  hout c := by
    rw [ownSems0_none]
    show (scopedRest spec1 c : sProp 𝕄) ⊢ _
    iintro Hr
    isplitr; · iempintro
    isplitr; · iempintro
    iexact Hr
  hexit c := by
    have hjoin := Pipeline.unscopedBufs_of_arrays (pcfgs (F := F)) (aa h) (p := 1) winFacts1 arr_whole1 c (pdats h)
      ((pdats h 1 c).share_full fun _ => rfl) (fun b => V9 m (outs h) c b) (fun b => V10 m (outs h) c b)
      (fun w => (dat1 (V9 m (outsA h)) c).arrAt w cfg1.N) (arr1_final h c)
      (fun b hb => V10_of m (outs h) c b fun hm => hb (by
        rw [List.mem_singleton] at hm; subst hm; exact v42_mem))
    rw [← Pipeline.unscopedBufs_held c (V10 m (outs h) c)]
    iintro ⟨Ha, HO, -, HZ⟩
    imodintro
    isplitr [HO]
    · iapply hjoin
      isplitl [Ha]; · iexact Ha
      iexact HZ
    · unfold Pipeline.Dat.owesAt Pipeline.owesWithin
      icases HO with ⟨%W, -, HO⟩; iexists W; iexact HO

/-- What every core starts with beside its buffers. -/
theorem start_rest (ρ : Dev nD → PrngReg) :
    iprop((bigSep Finset.univ fun c : Dev nD => iprop(unscopedSems0 c ∗ owes (c : Thread nD τ) (0 : CellTallies nD τ sig Unit) ∅
        ∗ Pipeline.launchCred (0 : Dev nD → CellTallies nD τ sig Unit) c ∗ prngReg c (ρ c) ∗ iprop(emp))) ∗ levAts L lv)
      ⊢ (|={Set.univ}=> bigSep Finset.univ fun c => R c : sProp 𝕄) := by
  refine Pipeline.initEach L lv fun c => ?_
  iintro ⟨⟨-, HO, -, -, -⟩, -⟩
  imodintro
  iexists ∅; iexact HO

set_option backward.isDefEq.respectTransparency.types false in
/-- The program's run: it ends without a fault, every buffer of every core that outlives the kernels then as the last
    valuation says, every counter at zero. -/
theorem run_main (ρ : Dev nD → PrngReg) :
    θ_run defs (onTc (τ := τ) (main (F := F))) ⟨m, fun _ => 0, ρ⟩ (fun r =>
      (∀ (c : Dev nD) (b : Ref sig .tc), ¬ b.isScoped → r.2.mem ((c.tc : Thread nD τ).loc b) = V11 m (outs h) c b)
      ∧ r.2.sem = fun _ => 0) := by
  refine Pipeline.θ_run_regions_kit_dev_sems (pcfgs (F := F)) (aa h) (pdats h) () (cellOf_inj (aa h)) emb₁ defs₀ Variants.none L lv m ρ main
    (segs m (outs h) Variants.none L lv (fun _ => R) () (aa h) (pdats h) (reg0 h) (reg1 h))
    (fun c Q => ?_) (fun c => by simp only [segs, Seg.pipes_host, Seg.pipes_region, Seg.pipes_nil]; decide)
    (0 : Dev nD → CellTallies nD τ sig Unit) (fun _ _ => rfl) (fun _ => iprop(emp))
    (initOf (Pipeline.cells (Pipeline.pin (pcfgs (F := F)) (aa h)) (cellOf_inj (aa h))) (Pipeline.launchToks (Pipeline.pin (pcfgs (F := F)) (aa h)) (cellOf_inj (aa h)))) ?_
    (T₀ := fun c => iprop(StableHlo.held (c : Thread nD τ) (Pipeline.ucRefs τ sig) (V0 m c) ∗ R c))
    (Tₙ := fun c => StableHlo.held (c : Thread nD τ) (Pipeline.ucRefs τ sig) (V11 m (outs h) c))
    (hch := fun c => ⟨.rfl, .rfl, .rfl, .rfl, .rfl, .rfl, .rfl, .rfl, .rfl, .rfl, .rfl, sep_mono .rfl .rfl⟩)
    (hinit := ?_) (QY := fun c s => ∀ b : Ref sig .tc, ¬ b.isScoped → s.mem ((c.tc : Thread nD τ).loc b) = V11 m (outs h) c b)
    (hfin := fun c s' => ?_) (hQ := fun _ h hz => ⟨h, funext fun g => hz g (.inr (regions_no_unscoped g.2))⟩)
  · rewrite [main_chain c, Seg.run_eq_chain,
      show (segs m (outs h) Variants.none L lv (fun _ => R) () (aa h) (pdats h) (reg0 h) (reg1 h) c).map Seg.prog = [
        StableHlo.seq hostOps0, StableHlo.seq hostOps0_1, StableHlo.seq hostOps0_2, StableHlo.seq hostOps0_3,
        StableHlo.seq hostOps0_4, StableHlo.seq hostOps0_5, StableHlo.seq hostOps0_6,
        Prog.lift (.customCall (Pipeline.entry 0) ()), StableHlo.seq hostOps1,
        Prog.lift (.customCall (Pipeline.entry 1) ()), StableHlo.seq hostOps2 ] from rfl]
    dsimp (config := { failIfUnchanged := false }) only
    exact .rfl
  · rw [show (bigSep Finset.univ fun _ : Dev nD => (iprop(emp) : sProp 𝕄)) = iprop(emp) from bigSep_emp_const _]
    have e : ∀ u : UU, (ownU u : sProp 𝕄) ⊢ |={Set.univ}=> iprop(BI.own ((emb₁ : Emb UU 𝕄) u) ∗ emp) := fun u => by
      refine (show (ownU u : sProp 𝕄) ⊢ BI.own ((emb₁ : Emb UU 𝕄) u) from BI.Entails.refl _).trans ?_
      iintro H; imodintro
      isplitl [H]; · iexact H
      iempintro
    exact e _
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (0 : Dev nD → CellTallies nD τ sig Unit) c ∗ prngReg c (ρ c) ∗ iprop(emp)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅
              ∗ Pipeline.launchCred (0 : Dev nD → CellTallies nD τ sig Unit) c ∗ prngReg c (ρ c) ∗ iprop(emp))) : sProp 𝕄) := by
      rw [← bigSep_sep']
      exact bigSep_mono fun c _ => by rw [← Pipeline.unscopedBufs_held c (V0 m c)]; exact BI.Entails.refl _
    iintro ⟨H, Hla⟩
    ihave H' := hsplit $$ H
    icases H' with ⟨Hh, Hr⟩
    imod (start_rest ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V11 m (outs h) c) s') $$ [Hh HSI]
    · isplitl [Hh] <;> iassumption
    icases Hr with ⟨%hr, HSI⟩
    imodintro
    isplitr
    · ipureintro
      exact fun b hb => hr (Proc.devRef .tc b) (Finset.mem_filter.mpr ⟨StableHlo.devRef_mem_tcRefs b, hb⟩)
    · iexact HSI

end Cert.KernelIdeal.Run
end
-- ==== Proof.Ideal.Tables.lean ====
module

public import proofs.«01_k».proof.Proof.Ideal.Run
public import proofs.«01_k».proof.Proof.Words

@[expose] public section

set_option maxRecDepth 16384

/-! The three chunk tables as the host operations leave them, entry by entry, and that they are good. -/

noncomputable section

namespace Cert.KernelIdeal.Run

open Cert.KernelIdeal Cert.KernelIdeal.Gen
open Idealize.ShloMosaic hiding ix0 ix1 ix2 ix3 eq_ix2
open Idealize.ShloMosaic.ValueIdx
open Idealize.ShloMosaic.TcCoe Idealize.ShloMosaic.Tactic
open Idealize.ShloMosaic.Routing (pyDiv pyDiv_ap)
open Cert.Sched Cert.Words

variable {F : FTy → Type} [FloatOps F]

section
variable (V : Valuation τ sig (Elt F))

/-- The chunk starts before sorting, as the first stretch leaves them. -/
theorem read_v14 : StableHlo.after hostOps0 V main_v14
    = concatenate S204 0 [⟨S125, muli (iotaInDim S125 32 0) (broadcastInDim S125 ![] bcast_S_S125 (constantI S_ 32 2560#32))⟩,
        ⟨S79, Host.reduce IntOp.addi (extui 32 (cmpi .slt
          (broadcastInDim S79x320000 ![0, 1] bcast_S1x320000_S79x320000_0_1 (broadcastInDim S1x320000 ![1] bcast_S320000_S1x320000_1 (V main_arg3)))
          (broadcastInDim S79x320000 ![0, 1] bcast_S79x1_S79x320000_0_1 (broadcastInDim S79x1 ![0] bcast_S79_S79x1_0
            (muli (iotaInDim S79 32 0) (broadcastInDim S79 ![] bcast_S_S79 (constantI S_ 32 128#32)))))) natLt_1_32)
          (constantI S_ 32 0#32) reducesTo_S79x320000_S79_d1 h_S_⟩] concatenates_S125_S79_S204_d0 := by
  simp only [hostOps0]
  after_results_simp
  refine congrArg₂ (fun (a : S125.Idx → BitVec 32) (b : S79.Idx → BitVec 32) =>
    concatenate S204 0 [⟨S125, a⟩, ⟨S79, b⟩] concatenates_S125_S79_S204_d0) ?_ ?_
  · after_results_simp <;> rfl
  · after_results_simp <;> rfl

/-- The sorted chunk starts. -/
theorem read_v15 : StableHlo.after hostOps0_1 V main_v15 = Host.sort S204 0 comparator_i32_d0 (V main_v14) := by
  simp only [hostOps0_1, StableHlo.TRef.unary, StableHlo.TRef.toBuf, StableHlo.TRef.ofBuf, cast_eq]
  after_results_simp <;> rfl

/-- Which entries start a chunk. -/
theorem read_v24 : StableHlo.after hostOps0_2 V main_v24
    = extui 32 (andi (concatenate S204 0 [⟨S1, broadcastInDim S1 ![] bcast_S_S1 (constantI S_ 1 1#1)⟩,
        ⟨S203, cmpi .ne (extractStridedSlice S203 ![1] (V main_v15) slices_S204_S203_1) (extractStridedSlice S203 ![0] (V main_v15) slices_S204_S203_0)⟩]
          concatenates_S1_S203_S204_d0)
      (cmpi .slt (V main_v15) (broadcastInDim S204 ![] bcast_S_S204 (constantI S_ 32 320000#32)))) natLt_1_32 := by
  simp only [hostOps0_2]
  after_results_simp <;> rfl

/-- The sorted starts, clamped to the edges. -/
theorem read_v26 : StableHlo.after hostOps0_2 V main_v26
    = minsi (V main_v15) (broadcastInDim S204 ![] bcast_S_S204 (constantI S_ 32 319999#32)) := by
  simp only [hostOps0_2]
  after_results_simp <;> rfl

/-- The divisor 2560. -/
theorem read_c5 : StableHlo.after hostOps0_2 V main_c_5 = constantI S_ 32 2560#32 := by
  simp only [hostOps0_2]
  after_results_simp <;> rfl

/-- The blocks: the clamped starts divided, rounding down. -/
theorem read_v27 : StableHlo.after hostOps0_3 V main_v27 = pyDiv bcast_S_S204 (V main_v26) (V main_c_5) := by
  simp only [hostOps0_3, StableHlo.TRef.unary, StableHlo.TRef.binary, StableHlo.TRef.nullary, StableHlo.TRef.ternary,
    StableHlo.TRef.toBuf, StableHlo.TRef.ofBuf, cast_eq]
  after_results_simp <;> rfl

/-- The ids at the clamped starts. -/
theorem read_v34 : StableHlo.after hostOps0_4 V main_v34
    = Host.gather gather_S320000_S204x1_S204_n_0_n_n_0_1_1 (V main_arg3) (broadcastInDim S204x1 ![0] bcast_S204_S204x1_0
      (select (cmpi .slt (V main_v26) (broadcastInDim S204 ![] bcast_S_S204 (constantI S_ 32 0#32)))
        (addi (V main_v26) (broadcastInDim S204 ![] bcast_S_S204 (constantI S_ 32 320000#32))) (V main_v26))) := by
  simp only [hostOps0_4]
  after_results_simp <;> rfl

/-- The divisor 128. -/
theorem read_c8 : StableHlo.after hostOps0_4 V main_c_8 = constantI S_ 32 128#32 := by
  simp only [hostOps0_4]
  after_results_simp <;> rfl

/-- The tiles: the ids divided, rounding down. -/
theorem read_v35 : StableHlo.after hostOps0_5 V main_v35 = pyDiv bcast_S_S204 (V main_v34) (V main_c_8) := by
  simp only [hostOps0_5, StableHlo.TRef.unary, StableHlo.TRef.binary, StableHlo.TRef.nullary, StableHlo.TRef.ternary,
    StableHlo.TRef.toBuf, StableHlo.TRef.ofBuf, cast_eq]
  after_results_simp <;> rfl

/-- The block table. -/
theorem read_v36 : StableHlo.after hostOps0_6 V main_v36 = shapeCast S4x51 (V main_v27) shapeCasts_S204_S4x51 := by
  simp only [hostOps0_6]
  after_results_simp <;> rfl

/-- The tile table. -/
theorem read_v37 : StableHlo.after hostOps0_6 V main_v37 = shapeCast S4x51 (V main_v35) shapeCasts_S204_S4x51 := by
  simp only [hostOps0_6]
  after_results_simp <;> rfl

/-- The table of chunk starts. -/
theorem read_v38 : StableHlo.after hostOps0_6 V main_v38 = shapeCast S4x51 (V main_v24) shapeCasts_S204_S4x51 := by
  simp only [hostOps0_6]
  after_results_simp <;> rfl

end

section
variable {m : (ℓ : Loc nD τ sig) → Buf (Elt F) ℓ} {q : ℕ → ℕ}

/-- The three tables, entry by entry: at chunk `51·s + i` the block, the tile and whether the chunk is one. -/
theorem tables_at (hi : Rng (m (d0, main_arg3)) q) :
    ∃ P : ℕ → ℕ, Pts q P ∧ ∀ (s : Fin 4) (i : Fin 51),
      tables m 0 (ix2 s i) = BitVec.ofNat 32 (eb P (s.val * 51 + i.val))
      ∧ tables m 1 (ix2 s i) = BitVec.ofNat 32 (qt q P (s.val * 51 + i.val))
      ∧ tables m 2 (ix2 s i) = BitVec.ofNat 32 (if Valid P (s.val * 51 + i.val) then 1 else 0) := by
  have hk : ∀ r, key q r < 2 ^ 31 ∨ 204 ≤ r := by
    intro r
    unfold key cut
    split
    · omega
    · left; exact lt_of_le_of_lt (Nat.count_le _) (by decide)
  let k : ℕ → ℕ := fun r => if r < 204 then key q r else 0
  have hk31 : ∀ r, k r < 2 ^ 31 := fun r => by
    simp only [k]; split
    · rcases hk r with h | h
      · exact h
      · omega
    · decide
  have hkeys : ∀ r : Fin 204, V1 m d0 main_v14 (ix1 r) = BitVec.ofNat 32 (k r.val) := by
    intro r
    have e : k r.val = key q r.val := if_pos r.isLt
    rw [e]
    refine (congrFun (read_v14 (V0 m d0)) (ix1 r)).trans ?_
    exact keys_ap _ (fun j => starts_ap hi _ _ _ _ _ _ _ _ j) _ _ r
  obtain ⟨σ, hs, hmono, hsort⟩ := sort_ap comparator_i32_d0 (fun _ _ => rfl) _ k hkeys hk31
  let P : ℕ → ℕ := fun r => if h : r < 204 then k (σ ⟨r, h⟩).val else 0
  have hPv : ∀ r : Fin 204, P r.val = k (σ r).val := fun r => dif_pos r.isLt
  have hP : ∀ r, P r < 2 ^ 31 := fun r => by
    simp only [P]; split
    · exact hk31 _
    · decide
  have hpts : Pts q P := by
    refine ⟨fun i j hij hj => ?_, fun r hr => ⟨(σ ⟨r, hr⟩).val, (σ ⟨r, hr⟩).isLt, ?_⟩, fun s hs' => ?_⟩
    · rw [hPv ⟨i, by omega⟩, hPv ⟨j, hj⟩]; exact hmono _ _ hij
    · rw [hPv ⟨r, hr⟩]; exact if_pos (Fin.isLt _)
    · obtain ⟨r, hr⟩ := hs ⟨s, hs'⟩
      exact ⟨r.val, r.isLt, by rw [hPv, hr]; exact if_pos hs'⟩
  have h15 : ∀ r : Fin 204, V2 m d0 main_v15 (ix1 r) = BitVec.ofNat 32 (P r.val) := fun r => by
    rw [hPv]; exact (congrFun (read_v15 (V1 m d0)) (ix1 r)).trans (hsort r)
  have h24 : ∀ r : Fin 204, V3 m d0 main_v24 (ix1 r) = BitVec.ofNat 32 (if Valid P r.val then 1 else 0) := fun r =>
    (congrFun (read_v24 (V2 m d0)) (ix1 r)).trans (valid_ap _ P h15 hP _ _ _ _ _ _ r)
  have h26 : ∀ r : Fin 204, V3 m d0 main_v26 (ix1 r) = BitVec.ofNat 32 (cl P r.val) := fun r =>
    (congrFun (read_v26 (V2 m d0)) (ix1 r)).trans (clamp_ap _ P h15 hP _ r)
  have h27 : ∀ r : Fin 204, V4 m d0 main_v27 (ix1 r) = BitVec.ofNat 32 (eb P r.val) := fun r =>
    (congrFun (read_v27 (V3 m d0)) (ix1 r)).trans
      (pyDiv_ap _ _ _ _ (h26 r) (congrFun (read_c5 (V2 m d0)) _) (by have := cl_lt P r.val; omega) (by decide) (by decide))
  have h26' : ∀ r : Fin 204, V4 m d0 main_v26 (ix1 r) = BitVec.ofNat 32 (cl P r.val) := fun r =>
    (congrFun (V4_of m d0 main_v26 (by decide)) (ix1 r)).trans (h26 r)
  have hids : V4 m d0 main_arg3 = m (d0, main_arg3) :=
    (V4_of m d0 main_arg3 (by decide)).trans <| (V3_of m d0 main_arg3 (by decide)).trans <|
      (V2_of m d0 main_arg3 (by decide)).trans <| (V1_of m d0 main_arg3 (by decide))
  have h34 : ∀ r : Fin 204, V5 m d0 main_v34 (ix1 r) = BitVec.ofNat 32 (q (cl P r.val)) := fun r =>
    (congrFun (read_v34 (V4 m d0)) (ix1 r)).trans
      (take_ids (hids ▸ hi) _ P h26' _ rfl rfl rfl rfl _ _ r)
  have h35 : ∀ r : Fin 204, V6 m d0 main_v35 (ix1 r) = BitVec.ofNat 32 (qt q P r.val) := fun r =>
    (congrFun (read_v35 (V5 m d0)) (ix1 r)).trans
      (pyDiv_ap _ _ _ _ (h34 r) (congrFun (read_c8 (V4 m d0)) _) (by have := hi.lt (cl P r.val); omega) (by decide) (by decide))
  refine ⟨P, hpts, fun s i => ⟨?_, ?_, ?_⟩⟩
  · refine (congrFun (read_v36 (V6 m d0)) (ix2 s i)).trans ((rows_ap _ _ s i).trans ?_)
    exact (congrFun ((V6_of m d0 main_v27 (by decide)).trans (V5_of m d0 main_v27 (by decide))) _).trans (h27 _)
  · refine (congrFun (read_v37 (V6 m d0)) (ix2 s i)).trans ((rows_ap _ _ s i).trans ?_)
    exact h35 _
  · refine (congrFun (read_v38 (V6 m d0)) (ix2 s i)).trans ((rows_ap _ _ s i).trans ?_)
    exact (congrFun ((V6_of m d0 main_v24 (by decide)).trans <| (V5_of m d0 main_v24 (by decide)).trans
      (V4_of m d0 main_v24 (by decide))) _).trans (h24 _)

/-- Every entry of the tables lies in range: the block below 125, the tile below 79. -/
theorem tables_lt (hi : Rng (m (d0, main_arg3)) q) (a : S4x51.Idx) :
    (tables m 0 a : BitVec 32).toNat < 125 ∧ (tables m 1 a : BitVec 32).toNat < 79 := by
  obtain ⟨P, -, h⟩ := tables_at hi
  have ha : (ix2 (a 0) (a 1) : S4x51.Idx) = a := (eq_ix2 a).symm
  have h := h (a 0) (a 1)
  rw [show (ix2 _ _ : S4x51.Idx) = a from ha] at h
  have hb := eb_lt P ((a 0).val * 51 + (a 1).val)
  have ht := qt_lt (P := P) hi.lt ((a 0).val * 51 + (a 1).val)
  constructor
  · rw [h.1, BitVec.toNat_ofNat]; omega
  · rw [h.2.1, BitVec.toNat_ofNat]; omega

/-- A block of ids named by a number below 125 lies inside the array of ids. -/
theorem inb_ids {v : ℕ} (hv : v < 125) (a : Fin 3) : (![v, 0, 0] a + 1) * S1x2560x1.size a ≤ S125x2560x1.size a := by
  match a with
  | 0 => show (v + 1) * 1 ≤ 125; omega
  | 1 => show (0 + 1) * 2560 ≤ 2560; omega
  | 2 => show (0 + 1) * 1 ≤ 1; omega

/-- A block of radial features named by a number below 125 lies inside their array. -/
theorem inb_rbf {v : ℕ} (hv : v < 125) (a : Fin 2) : (![v, 0] a + 1) * S2560x16.size a ≤ S320000x16.size a := by
  match a with
  | 0 => show (v + 1) * 2560 ≤ 320000; omega
  | 1 => show (0 + 1) * 16 ≤ 16; omega

/-- A block of messages named by a number below 125 lies inside their array. -/
theorem inb_msg {v : ℕ} (hv : v < 125) (a : Fin 2) : (![v, 0] a + 1) * S2560x128.size a ≤ S320000x128.size a := by
  match a with
  | 0 => show (v + 1) * 2560 ≤ 320000; omega
  | 1 => show (0 + 1) * 128 ≤ 128; omega

/-- A tile's first row, as the body computes it. -/
theorem tile_row {v : BitVec 32} (hv : v.toNat < 79) : k0_off6 v 0 = v.toNat * 128 := by
  show (v * 128#32).toNat = _
  rw [BitVec.toNat_mul]
  show v.toNat * 128 % 2 ^ 32 = _
  omega

/-- Where the ids are in range, the tables are good. -/
theorem good_of (hi : Rng (m (d0, main_arg3)) q) : Good m := by
  have h0 : ∀ a : S4x51.Idx, (tables m 0 a : BitVec 32).toNat < 125 := fun a => (tables_lt hi a).1
  refine ⟨⟨?_, ?_, ?_, ?_, ?_, ?_, ?_, ?_, ?_, ?_, ?_, ?_⟩, fun off hoff => ?_⟩
  · exact fun i => ⟨inb_ids (h0 _), Or.inl rfl⟩
  · exact fun i => ⟨inb_ids (h0 _), Or.inl rfl⟩
  · exact fun i => ⟨inb_ids (h0 _), Or.inl rfl⟩
  · exact fun i => ⟨inb_ids (h0 _), Or.inl rfl⟩
  · exact fun i => ⟨inb_rbf (h0 _), Or.inl rfl⟩
  · exact fun i => ⟨inb_rbf (h0 _), Or.inl rfl⟩
  · exact fun i => ⟨inb_rbf (h0 _), Or.inl rfl⟩
  · exact fun i => ⟨inb_rbf (h0 _), Or.inl rfl⟩
  · exact fun i => ⟨inb_msg (h0 _), Or.inl rfl⟩
  · exact fun i => ⟨inb_msg (h0 _), Or.inl rfl⟩
  · exact fun i => ⟨inb_msg (h0 _), Or.inl rfl⟩
  · exact fun i => ⟨inb_msg (h0 _), Or.inl rfl⟩
  · have ht : (word (F := F) (tables m 1) off hoff : BitVec 32).toNat < 79 := (tables_lt hi _).2
    intro a
    match a with
    | 0 => rw [tile_row ht]; show _ + 128 ≤ 10112; omega
    | 1 => show 0 + 128 ≤ 128; omega

end

end Cert.KernelIdeal.Run
-- ==== Proof.Ideal.Frame.lean ====
module

public import proofs.«01_k».proof.Proof.Ideal.Tables

@[expose] public section

set_option maxRecDepth 16384

/-! The frame: the program runs, its arguments end as launched, every counter ends at zero. -/

noncomputable section

namespace Cert.KernelIdeal.Run

open Cert.KernelIdeal Cert.KernelIdeal.Gen
open Idealize.ShloMosaic Idealize.ShloMosaic.TcCoe Idealize.SL.Sem
open Cert.Words

variable {F : FTy → Type} [FloatOps F] {m : (ℓ : Loc nD τ sig) → Buf (Elt F) ℓ} {q : ℕ → ℕ}

/-- Every argument of the program on core `c` as launched. -/
def Kept (m : (ℓ : Loc nD τ sig) → Buf (Elt F) ℓ) (r : (ℓ : Loc nD τ sig) → Buf (Elt F) ℓ) (c : Dev nD) : Prop :=
  ∀ b ∈ ([main_arg0, main_arg1, main_arg2, main_arg3, main_arg4, main_arg5, main_arg6, main_arg7, main_arg8, main_arg9, main_arg10] : List (Ref sig .tc)),
    r ((c.tc : Thread nD τ).loc b) = m ((c.tc : Thread nD τ).loc b)

/-- No argument is written on the way. -/
theorem kept_args (outs : Outs (F := F)) (c : Dev nD) :
    ∀ b ∈ ([main_arg0, main_arg1, main_arg2, main_arg3, main_arg4, main_arg5, main_arg6, main_arg7, main_arg8, main_arg9, main_arg10] : List (Ref sig .tc)),
      ¬ b.isScoped ∧ V11 m outs c b = m ((c.tc : Thread nD τ).loc b) := by
  refine List.forall_iff_forall_mem.1 ⟨⟨by decide, V11_main_arg0 m outs c⟩, ⟨by decide, V11_main_arg1 m outs c⟩, ⟨by decide, V11_main_arg2 m outs c⟩,
    ⟨by decide, V11_main_arg3 m outs c⟩, ⟨by decide, V11_main_arg4 m outs c⟩, ⟨by decide, V11_main_arg5 m outs c⟩, ⟨by decide, V11_main_arg6 m outs c⟩,
    ⟨by decide, V11_main_arg7 m outs c⟩, ⟨by decide, V11_main_arg8 m outs c⟩, ⟨by decide, V11_main_arg9 m outs c⟩, ⟨by decide, V11_main_arg10 m outs c⟩⟩

/-- The run, with the result and the arguments read off the last contents. -/
theorem run_kept (hi : Rng (m (d0, main_arg3)) q) (ρ : Dev nD → PrngReg) :
    θ_run defs (onTc (τ := τ) main) ⟨m, fun _ => 0, ρ⟩ (fun r =>
      (∀ c : Dev nD, r.2.mem ((c.tc : Thread nD τ).loc main_v43) = V11 m (outs (good_of hi)) c main_v43 ∧ Kept m r.2.mem c)
      ∧ r.2.sem = fun _ => 0) :=
  (θ_run defs _ _).mono (fun r h => ⟨fun c => ⟨h.1 c main_v43 (by decide), fun b hb =>
      (h.1 c b (kept_args (m := m) (outs (good_of hi)) c b hb).1).trans (kept_args (m := m) (outs (good_of hi)) c b hb).2⟩, h.2⟩) (run_main (good_of hi) ρ)

end Cert.KernelIdeal.Run
-- ==== Proof.Ideal.Blocks.lean ====
module

public import proofs.«01_k».proof.Proof.Ideal.Region0
public import proofs.«01_k».proof.Proof.Sched
public import Idealize.ShloMosaic.Lib.Pointwise
public import Idealize.ShloMosaic.Lib.Pipeline.ValueKit

@[expose] public section

set_option maxRecDepth 16384

/-! What a grid point of the first kernel reads: its words of the tables and its blocks of the arrays, by their
    coordinates. -/

noncomputable section

namespace Cert.KernelIdeal.Run

open Cert.KernelIdeal Cert.KernelIdeal.Gen
open Idealize.ShloMosaic Idealize.ShloMosaic.Pipeline
open Idealize.ShloMosaic.TcCoe
open Cert.Sched

variable {F : FTy → Type} [FloatOps F]

/-- A word of a table is its entry. -/
theorem word_at (T : Vec F S4x51 .i32) (off : Fin 2 → ℕ) (hoff : ∀ a, off a + S1x1.size a ≤ S4x51.size a)
    (s : Fin 4) (i : Fin 51) (h : off = ![s.val, i.val]) : word T off hoff = T (ix2 s i) := by
  subst h
  refine congrArg T (funext fun a => Fin.ext ?_)
  have h0 : (Shape.Idx.first (s := S1x1) (numel1_S1x1.symm ▸ Nat.one_pos) a).val = 0 := by
    have hlt := (Shape.Idx.first (s := S1x1) (numel1_S1x1.symm ▸ Nat.one_pos) a).isLt
    have h : S1x1.size a = 1 := by fin_cases a <;> rfl
    omega
  show (![s.val, i.val] : Fin 2 → ℕ) a + 1 * (Shape.Idx.first (s := S1x1) (numel1_S1x1.symm ▸ Nat.one_pos) a).val = _
  rw [h0]
  fin_cases a <;> rfl

/-- The lanes' offsets into the tables at a point. -/
theorem lane_off : ∀ t : Fin grid0.N, k0_off1 (grid0.coords t) = ![0, t.val] ∧ k0_off7 (grid0.coords t) = ![1, t.val]
    ∧ k0_off10 (grid0.coords t) = ![2, t.val] ∧ k0_off13 (grid0.coords t) = ![3, t.val] := by decide +kernel

/-- The index maps' offsets into the tables at a point. -/
theorem map_off : ∀ t : Fin grid0.N, k0_off1 (grid0.coords t) = ![0, t.val] ∧ k0_off2 (grid0.coords t) = ![1, t.val]
    ∧ k0_off3 (grid0.coords t) = ![2, t.val] ∧ k0_off4 (grid0.coords t) = ![3, t.val] := by decide +kernel

/-- The tables' entries are the schedule's numbers. -/
structure Told (q P : ℕ → ℕ) (T : pre0.Contents (Elt F)) : Prop where
  blk : ∀ (s : Fin 4) (i : Fin 51), T 0 (ix2 s i) = BitVec.ofNat 32 (eb P (s.val * 51 + i.val))
  til : ∀ (s : Fin 4) (i : Fin 51), T 1 (ix2 s i) = BitVec.ofNat 32 (qt q P (s.val * 51 + i.val))
  val : ∀ (s : Fin 4) (i : Fin 51), T 2 (ix2 s i) = BitVec.ofNat 32 (if Valid P (s.val * 51 + i.val) then 1 else 0)

section
variable (V : Dev nD → Valuation τ sig (Elt F)) (a0 : (pcfg0 (F := F)).Adm)
variable {q P : ℕ → ℕ} (hT : Told q P a0.1)
include hT

/-- The block a table word names. -/
theorem word_blk (off : Fin 2 → ℕ) (hoff : ∀ a, off a + S1x1.size a ≤ S4x51.size a) (s : Fin 4) (i : Fin 51)
    (h : off = ![s.val, i.val]) : (word (F := F) (a0.1 0) off hoff).toNat = eb P (s.val * 51 + i.val) := by
  refine (congrArg BitVec.toNat ((word_at (F := F) (a0.1 0) off hoff s i h).trans (hT.blk s i))).trans ?_
  rw [BitVec.toNat_ofNat]
  exact Nat.mod_eq_of_lt (by have := eb_lt P (s.val * 51 + i.val); omega)

omit hT in
/-- An index of the ids, by its coordinates inside block `e`. -/
theorem ids_ix (x : S125x2560x1.Idx) {w e : ℕ} (hw : w = e) (he : e < 125) (k : Fin 2560) (h0 : (x 0).val = w * 1 + 1 * 0)
    (h1 : (x 1).val = 0 * 2560 + 1 * k.val) : x = ix3 (⟨e, he⟩ : Fin 125) k 0 := by
  funext a
  apply Fin.ext
  fin_cases a
  · show (x 0).val = e; omega
  · show (x 1).val = k.val; omega
  · show (x 2).val = 0
    have : (x 2).val < 1 := (x 2).isLt
    omega

omit hT in
/-- An index of an array of edges, by its coordinates inside block `e`. -/
theorem mat_ix {C : ℕ} (x : (⟨2, ![320000, C]⟩ : Shape).Idx) {w e : ℕ} (hw : w = e) (he : e < 125) (k : Fin 2560) (l : Fin C)
    (h0 : (x 0).val = w * 2560 + 1 * k.val) (h1 : (x 1).val = 0 * C + 1 * l.val) :
    x = ix2 (⟨e * 2560 + k.val, by have := k.isLt; omega⟩ : Fin 320000) l := by
  funext a
  apply Fin.ext
  fin_cases a
  · show (x 0).val = e * 2560 + k.val; rw [h0, hw]; omega
  · show (x 1).val = l.val; omega

/-- The block of ids each lane reads. -/
theorem ids_blk (c : Dev nD) (t : Fin grid0.N) (k : Fin 2560) :
    blk0 V a0 c 0 t (ix3 0 k 0) = V c main_v0 (ix3 (⟨eb P (0 * 51 + t.val), eb_lt P _⟩ : Fin 125) k 0)
    ∧ blk0 V a0 c 1 t (ix3 0 k 0) = V c main_v0 (ix3 (⟨eb P (1 * 51 + t.val), eb_lt P _⟩ : Fin 125) k 0)
    ∧ blk0 V a0 c 2 t (ix3 0 k 0) = V c main_v0 (ix3 (⟨eb P (2 * 51 + t.val), eb_lt P _⟩ : Fin 125) k 0)
    ∧ blk0 V a0 c 3 t (ix3 0 k 0) = V c main_v0 (ix3 (⟨eb P (3 * 51 + t.val), eb_lt P _⟩ : Fin 125) k 0) :=
  ⟨congrArg (V c main_v0) (ids_ix _ (word_blk a0 hT _ (k0_off1_inb (grid0.coords t)) 0 t (map_off t).1) (eb_lt P _) k rfl rfl),
    congrArg (V c main_v0) (ids_ix _ (word_blk a0 hT _ (k0_off2_inb (grid0.coords t)) 1 t (map_off t).2.1) (eb_lt P _) k rfl rfl),
    congrArg (V c main_v0) (ids_ix _ (word_blk a0 hT _ (k0_off3_inb (grid0.coords t)) 2 t (map_off t).2.2.1) (eb_lt P _) k rfl rfl),
    congrArg (V c main_v0) (ids_ix _ (word_blk a0 hT _ (k0_off4_inb (grid0.coords t)) 3 t (map_off t).2.2.2) (eb_lt P _) k rfl rfl)⟩

/-- The edge `k` of the block lane `s` reads at point `t`. -/
abbrev edgeOf (P : ℕ → ℕ) (s t : ℕ) (k : Fin 2560) : Fin 320000 :=
  ⟨eb P (s * 51 + t) * 2560 + k.val, by have := eb_lt P (s * 51 + t); have := k.isLt; omega⟩

/-- The block of radial basis rows each lane reads. -/
theorem rbf_blk (c : Dev nD) (t : Fin grid0.N) (k : Fin 2560) (l : Fin 16) :
    blk0 V a0 c 4 t (ix2 k l) = V c main_arg2 (ix2 (edgeOf P 0 t.val k) l)
    ∧ blk0 V a0 c 5 t (ix2 k l) = V c main_arg2 (ix2 (edgeOf P 1 t.val k) l)
    ∧ blk0 V a0 c 6 t (ix2 k l) = V c main_arg2 (ix2 (edgeOf P 2 t.val k) l)
    ∧ blk0 V a0 c 7 t (ix2 k l) = V c main_arg2 (ix2 (edgeOf P 3 t.val k) l) :=
  ⟨congrArg (V c main_arg2) (mat_ix _ (word_blk a0 hT _ (k0_off1_inb (grid0.coords t)) 0 t (map_off t).1) (eb_lt P _) k l rfl rfl),
    congrArg (V c main_arg2) (mat_ix _ (word_blk a0 hT _ (k0_off2_inb (grid0.coords t)) 1 t (map_off t).2.1) (eb_lt P _) k l rfl rfl),
    congrArg (V c main_arg2) (mat_ix _ (word_blk a0 hT _ (k0_off3_inb (grid0.coords t)) 2 t (map_off t).2.2.1) (eb_lt P _) k l rfl rfl),
    congrArg (V c main_arg2) (mat_ix _ (word_blk a0 hT _ (k0_off4_inb (grid0.coords t)) 3 t (map_off t).2.2.2) (eb_lt P _) k l rfl rfl)⟩

/-- The block of messages each lane reads. -/
theorem msg_blk (c : Dev nD) (t : Fin grid0.N) (k : Fin 2560) (l : Fin 128) :
    blk0 V a0 c 8 t (ix2 k l) = V c main_arg1 (ix2 (edgeOf P 0 t.val k) l)
    ∧ blk0 V a0 c 9 t (ix2 k l) = V c main_arg1 (ix2 (edgeOf P 1 t.val k) l)
    ∧ blk0 V a0 c 10 t (ix2 k l) = V c main_arg1 (ix2 (edgeOf P 2 t.val k) l)
    ∧ blk0 V a0 c 11 t (ix2 k l) = V c main_arg1 (ix2 (edgeOf P 3 t.val k) l) :=
  ⟨congrArg (V c main_arg1) (mat_ix _ (word_blk a0 hT _ (k0_off1_inb (grid0.coords t)) 0 t (map_off t).1) (eb_lt P _) k l rfl rfl),
    congrArg (V c main_arg1) (mat_ix _ (word_blk a0 hT _ (k0_off2_inb (grid0.coords t)) 1 t (map_off t).2.1) (eb_lt P _) k l rfl rfl),
    congrArg (V c main_arg1) (mat_ix _ (word_blk a0 hT _ (k0_off3_inb (grid0.coords t)) 2 t (map_off t).2.2.1) (eb_lt P _) k l rfl rfl),
    congrArg (V c main_arg1) (mat_ix _ (word_blk a0 hT _ (k0_off4_inb (grid0.coords t)) 3 t (map_off t).2.2.2) (eb_lt P _) k l rfl rfl)⟩

omit hT in
/-- The projection matrix, read whole. -/
theorem proj_blk (c : Dev nD) (t : Fin grid0.N) (k : Fin 16) (l : Fin 128) :
    blk0 V a0 c 12 t (ix2 k l) = V c main_arg4 (ix2 k l) := by
  refine congrArg (V c main_arg4) (funext fun a => Fin.ext ?_)
  fin_cases a
  · show 0 * 16 + 1 * k.val = k.val; omega
  · show 0 * 128 + 1 * l.val = l.val; omega

end

end Cert.KernelIdeal.Run
-- ==== Proof.Row.lean ====
module

public import proofs.«01_k».proof.Proof.Sched
public import Idealize.ShloMosaic.PureOps.Ideal

@[expose] public section

/-! The mathematics both programs compute: the sum of edge values gathered at an atom, and the dense layers that
    act on an atom's row. The gathered sum is also the sum over the chunks of the schedule. -/

noncomputable section

namespace Cert.Row

open Idealize.ShloMosaic Cert.Sched

/-- An edge's value in one feature: the message times the projected radial basis. -/
def edge (M : Fin 320000 → Fin 128 → EReal) (R : Fin 320000 → Fin 16 → EReal) (W : Fin 16 → Fin 128 → EReal)
    (e : Fin 320000) (j : Fin 128) : EReal :=
  M e j * ∑ i, R e i * W i j

/-- The sum of the edge values whose target is atom `a`. -/
def gathered (q : ℕ → ℕ) (E : Fin 320000 → Fin 128 → EReal) (a : ℕ) (j : Fin 128) : EReal :=
  ∑ e : Fin 320000, if q e.val = a then E e j else 0

/-- The scaled SiLU. -/
def silu (x : EReal) : EReal := Ideal.logistic x * x * Ideal.ofBits .f32 0x3FD55555#32

/-- A row times a matrix. -/
def times (x : Fin 128 → EReal) (W : Fin 128 → Fin 128 → EReal) (j : Fin 128) : EReal := ∑ k, x k * W k j

/-- A dense layer on a row. -/
def dense (x : Fin 128 → EReal) (W : Fin 128 → Fin 128 → EReal) (j : Fin 128) : EReal := silu (times x W j)

/-- A residual layer on a row. -/
def resid (x : Fin 128 → EReal) (W V : Fin 128 → Fin 128 → EReal) (j : Fin 128) : EReal :=
  (x j + dense (dense x W) V j) * Ideal.ofBits .f32 0x3F3504F3#32

/-- All the layers on a row. -/
def layers (x : Fin 128 → EReal) (W A B C D : Fin 128 → Fin 128 → EReal) : Fin 128 → EReal :=
  resid (resid (dense x W) A B) C D

/-- Scaling the row is scaling the matrix. -/
theorem times_scaled (x : Fin 128 → EReal) (W : Fin 128 → Fin 128 → EReal) (s : EReal) :
    times (fun k => x k * s) W = times x (fun k j => W k j * s) := by
  funext j
  exact Finset.sum_congr rfl fun k _ => by rw [mul_assoc, mul_comm s]

/-- So the layers on a scaled row are the layers with the first matrix scaled. -/
theorem layers_scaled (x : Fin 128 → EReal) (W A B C D : Fin 128 → Fin 128 → EReal) (s : EReal) :
    layers (fun k => x k * s) W A B C D = layers x (fun k j => W k j * s) A B C D := by
  have h : dense (fun k => x k * s) W = dense x (fun k j => W k j * s) := by
    funext j
    unfold dense
    rw [times_scaled]
  unfold layers
  rw [h]

/-- What the block of edges `b` gives atom `a`. -/
def blockSum (q : ℕ → ℕ) (G : ℕ → EReal) (a b : ℕ) : EReal :=
  ∑ k : Fin 2560, if q (b * 2560 + k.val) = a then G (b * 2560 + k.val) else 0

/-- What chunk `r` gives atom `a`: its block's edges, when the chunk is valid and its tile holds the atom. -/
def chunkSum (q P : ℕ → ℕ) (G : ℕ → EReal) (a r : ℕ) : EReal :=
  if Valid P r ∧ a / 128 = qt q P r then blockSum q G a (eb P r) else 0

section
variable {q : ℕ → ℕ} (hm : Monotone q)
include hm
variable {P : ℕ → ℕ} (hp : Pts q P) (hq : ∀ e, q e < 10000)
include hp hq

/-- A block's edges for one atom lie in exactly one chunk, or there are none. -/
theorem chunks_of_block (G : ℕ → EReal) (a b : ℕ) (hb : b < 125) :
    (∑ r ∈ Finset.range 204, if eb P r = b then chunkSum q P G a r else 0) = blockSum q G a b := by
  by_cases h : ∃ k : Fin 2560, q (b * 2560 + k.val) = a
  · obtain ⟨k, hk⟩ := h
    have hk' := k.isLt
    obtain ⟨r, hr, hv, he, ht⟩ := chunk_exists hm hp hq (b * 2560 + k.val) (by omega)
    have he' : eb P r = b := by omega
    rw [hk] at ht
    rw [Finset.sum_eq_single r]
    · rw [if_pos he', chunkSum, if_pos ⟨hv, ht.symm⟩, he']
    · intro r' hr' hne
      by_cases hc : eb P r' = b
      · rw [if_pos hc, chunkSum, if_neg]
        rintro ⟨hv', ht'⟩
        exact hne (chunk_unique hm hp r' r (Finset.mem_range.1 hr') hr hv' hv (by rw [hc, he']) (by rw [← ht', ht]))
      · rw [if_neg hc]
    · intro hn
      exact absurd (Finset.mem_range.2 hr) hn
  · have h0 : blockSum q G a b = 0 :=
      Finset.sum_eq_zero fun k _ => if_neg fun hk => h ⟨k, hk⟩
    rw [h0]
    refine Finset.sum_eq_zero fun r _ => ?_
    by_cases hc : eb P r = b
    · rw [if_pos hc, chunkSum, hc, h0, ite_self]
    · rw [if_neg hc]

/-- Over all chunks an atom receives each of its edges once. -/
theorem chunks_sum (G : ℕ → EReal) (a : ℕ) :
    ∑ r ∈ Finset.range 204, chunkSum q P G a r = ∑ e : Fin 320000, if q e.val = a then G e.val else 0 := by
  have h1 : ∀ r ∈ Finset.range 204, chunkSum q P G a r
      = ∑ b ∈ Finset.range 125, if eb P r = b then chunkSum q P G a r else 0 := fun r _ => by
    rw [Finset.sum_ite_eq, if_pos (Finset.mem_range.2 (eb_lt P r))]
  rw [Finset.sum_congr rfl h1, Finset.sum_comm,
    Finset.sum_congr rfl fun b hb => chunks_of_block hm hp hq G a b (Finset.mem_range.1 hb),
    Finset.sum_range]
  unfold blockSum
  rw [← Finset.sum_product' (s := Finset.univ) (t := Finset.univ)
    (f := fun (b : Fin 125) (k : Fin 2560) => if q (b.val * 2560 + k.val) = a then G (b.val * 2560 + k.val) else 0)]
  refine Fintype.sum_equiv (finProdFinEquiv (m := 125) (n := 2560)) _ _ fun x => ?_
  show _ = if q (x.2.val + 2560 * x.1.val) = a then G (x.2.val + 2560 * x.1.val) else 0
  rw [show x.2.val + 2560 * x.1.val = x.1.val * 2560 + x.2.val by omega]

end

end Cert.Row
-- ==== Proof.Ideal.Lane.lean ====
module

public import proofs.«01_k».proof.Proof.Ideal.Body0
public import proofs.«01_k».proof.Proof.Row
public import Idealize.ShloMosaic.Lib.Pointwise

@[expose] public section

set_option maxRecDepth 16384

/-! What one lane of the first kernel adds to the accumulator, element by element. -/

noncomputable section

namespace Cert.KernelIdeal.Run

open Cert.KernelIdeal Cert.KernelIdeal.Gen
open Idealize.ShloMosaic

/-- The lane's payload at an element: the old element plus the sum of the edge values whose id is the element's row. -/
theorem pay2_at (R : Vec Ideal S2560x16 .f32) (W : Vec Ideal S16x128 .f32) (M : Vec Ideal S2560x128 .f32) (v : BitVec 32)
    (I : Vec Ideal S1x2560x1 .i32) (A : Vec Ideal S128x128 .f32) (a j : Fin 128) :
    k0_pay2 R W M v I A (ix2 a j) = (A (ix2 a j) : EReal)
      + ∑ k : Fin 2560, if I (ix3 0 k 0) - v * 128#32 = BitVec.ofNat 32 a.val
          then (M (ix2 k j) : EReal) * ∑ i : Fin 16, (R (ix2 k i) : EReal) * W (ix2 i j) else 0 := by
  pointwise [k0_pay2]
  refine congrArg (_ + ·) (Finset.sum_congr rfl fun k _ => ?_)
  by_cases h : I (ix3 0 k 0) - v * 128#32 = BitVec.ofNat 32 a.val
  · rw [if_pos h]
    refine if_pos ?_
    show (BitVec.ofBool (I (ix3 0 k 0) - v * 128#32 == BitVec.ofNat 32 a.val)) = 1#1
    rw [h]; simp
  · rw [if_neg h]
    refine if_neg ?_
    show ¬ (BitVec.ofBool (I (ix3 0 k 0) - v * 128#32 == BitVec.ofNat 32 a.val)) = 1#1
    rw [beq_false_of_ne h]; simp

/-- The lane's comparison, on numbers: an id less the tile's first row is the row inside the tile. -/
theorem row_word (f t a : ℕ) (hf : f < 10000) (ht : t < 79) (ha : a < 128) :
    BitVec.ofNat 32 f - BitVec.ofNat 32 t * 128#32 = BitVec.ofNat 32 a ↔ f = t * 128 + a := by
  have h1 : BitVec.ofNat 32 t * 128#32 = BitVec.ofNat 32 (t * 128) := by
    apply BitVec.eq_of_toNat_eq
    simp only [BitVec.toNat_mul, BitVec.toNat_ofNat]
    omega
  rw [h1]
  constructor
  · intro h
    have h2 := congrArg BitVec.toNat h
    rw [BitVec.toNat_sub, BitVec.toNat_ofNat, BitVec.toNat_ofNat, BitVec.toNat_ofNat] at h2
    omega
  · rintro rfl
    apply BitVec.eq_of_toNat_eq
    rw [BitVec.toNat_sub, BitVec.toNat_ofNat, BitVec.toNat_ofNat, BitVec.toNat_ofNat]
    omega

/-- The tile's offset in rows. -/
theorem tile_off (t : ℕ) (ht : t < 79) : k0_off6 (BitVec.ofNat 32 t) = ![t * 128, 0] := by
  have h : (BitVec.ofNat 32 t * 128#32).toNat = t * 128 := by
    rw [BitVec.toNat_mul, BitVec.toNat_ofNat]
    show t % 2 ^ 32 * 128 % 2 ^ 32 = _
    omega
  show ![(BitVec.ofNat 32 t * 128#32).toNat, 0] = _
  rw [h]

/-- One lane at an element: a valid chunk whose tile holds the row adds the edges of its block with that id; any other
    leaves the element. -/
theorem laneStep_at (t : ℕ) (ht : t < 79) (valid : Prop) [Decidable valid] (f : Fin 2560 → ℕ) (hf : ∀ k, f k < 10000)
    (I : Vec Ideal S1x2560x1 .i32) (hI : ∀ k, I (ix3 0 k 0) = BitVec.ofNat 32 (f k))
    (R : Vec Ideal S2560x16 .f32) (M : Vec Ideal S2560x128 .f32) (W : Vec Ideal S16x128 .f32)
    (acc : Vec Ideal S10112x128 .f32) (a : Fin 10112) (j : Fin 128) :
    laneStep (F := Ideal) (BitVec.ofNat 32 t) (BitVec.ofNat 32 (if valid then 1 else 0)) I R M W acc (ix2 a j)
      = (acc (ix2 a j) : EReal) + if valid ∧ a.val / 128 = t then
          ∑ k : Fin 2560, (if f k = a.val then (M (ix2 k j) : EReal) * ∑ i : Fin 16, (R (ix2 k i) : EReal) * W (ix2 i j) else 0)
        else 0 := by
  have ha := a.isLt
  by_cases hv : valid
  · have hin : ∀ b, k0_off6 (BitVec.ofNat 32 t) b + S128x128.size b ≤ S10112x128.size b := by
      rw [tile_off t ht]
      intro b
      fin_cases b
      · show t * 128 + 128 ≤ 10112; omega
      · show 0 + 128 ≤ 128; omega
    rw [laneStep_pos (hv := by rw [if_pos hv]; decide) (hq := hin)]
    by_cases hb : a.val / 128 = t
    · rw [if_pos ⟨hv, hb⟩]
      have hx : (Rect.unit (s := S10112x128) (k0_off6 (BitVec.ofNat 32 t)) S128x128.size hin).emb
          (ix2 (⟨a.val % 128, Nat.mod_lt _ (by omega)⟩ : Fin 128) j) = (ix2 a j : S10112x128.Idx) := by
        funext b
        apply Fin.ext
        show k0_off6 (BitVec.ofNat 32 t) b + 1 * (ix2 (⟨a.val % 128, Nat.mod_lt _ (by omega)⟩ : Fin 128) j b).val = _
        rw [tile_off t ht]
        fin_cases b
        · show t * 128 + 1 * (a.val % 128) = a.val; omega
        · show 0 + 1 * j.val = j.val; omega
      rw [← hx, Rect.overlay_emb]
      refine (pay2_at R W M _ I _ ⟨a.val % 128, _⟩ j).trans ?_
      congr 1
      refine Finset.sum_congr rfl fun k _ => ?_
      have hc := row_word (f k) t (a.val % 128) (hf k) ht (Nat.mod_lt _ (by omega))
      rw [hI k]
      refine if_congr (hc.trans ?_) rfl rfl
      constructor <;> intro h <;> omega
    · rw [if_neg fun h => hb h.2, add_zero]
      refine Rect.overlay_of_not_mem _ _ _ fun hmem => hb ?_
      obtain ⟨x, hx⟩ := (Rect.unit (s := S10112x128) (k0_off6 (BitVec.ofNat 32 t)) S128x128.size hin).exists_idx_of_mem hmem
      have h0 : k0_off6 (BitVec.ofNat 32 t) 0 + 1 * (x 0).val = a.val := congrArg (fun i : S10112x128.Idx => (i 0).val) hx
      have h2 : k0_off6 (BitVec.ofNat 32 t) 0 = t * 128 := congrFun (tile_off t ht) 0
      have h1 : (x 0).val < 128 := (x 0).isLt
      omega
  · have hn : ¬ (valid ∧ a.val / 128 = t) := fun h => hv h.1
    rw [if_neg hn, add_zero, laneStep_neg (hv := by rw [if_neg hv]; decide)]

end Cert.KernelIdeal.Run
-- ==== Proof.Ideal.Gather.lean ====
module

public import proofs.«01_k».proof.Proof.Ideal.Blocks
public import proofs.«01_k».proof.Proof.Ideal.Lane

@[expose] public section

set_option maxRecDepth 16384

/-! What the first kernel's accumulator holds: after every point the sum of the chunks seen, after the last the sum of
    the edge values gathered at each atom; and so does the array it is written back to. -/

noncomputable section

namespace Cert.KernelIdeal.Run

open Cert.KernelIdeal Cert.KernelIdeal.Gen
open Idealize.ShloMosaic Idealize.ShloMosaic.Pipeline
open Idealize.ShloMosaic.TcCoe
open Cert.Sched Cert.Row

variable (V : Dev nD → Valuation τ sig (Elt Ideal)) (a0 : (pcfg0 (F := Ideal)).Adm) (c : Dev nD)

/-- The edge values, from the arrays the first kernel reads. -/
def edges : Fin 320000 → Fin 128 → EReal :=
  edge (fun e j => V c main_arg1 (ix2 e j)) (fun e i => V c main_arg2 (ix2 e i)) (fun i j => V c main_arg4 (ix2 i j))

/-- An edge value in feature `j` by the edge's number; none past the last edge. -/
def edgeVal (j : Fin 128) (e : ℕ) : EReal := if h : e < 320000 then edges V c ⟨e, h⟩ j else 0

/-- The ids' array, reshaped into blocks, holds the ids. -/
def IdsAt (q : ℕ → ℕ) : Prop :=
  ∀ (e : Fin 125) (k : Fin 2560), V c main_v0 (ix3 e k 0) = BitVec.ofNat 32 (q (e.val * 2560 + k.val))

variable {q P : ℕ → ℕ} (hT : Told q P a0.1) (hq : ∀ e, q e < 10000) (hI : IdsAt V c q)
include hT hq hI

/-- One lane adds its chunk. -/
theorem lane_chunk (s : Fin 4) (t : Fin 51) (off : Fin 2 → ℕ) (hoff : ∀ a, off a + S1x1.size a ≤ S4x51.size a)
    (h : off = ![s.val, t.val]) (xI : Vec Ideal S1x2560x1 .i32) (xR : Vec Ideal S2560x16 .f32) (xM : Vec Ideal S2560x128 .f32)
    (xW : Vec Ideal S16x128 .f32) (acc : Vec Ideal S10112x128 .f32)
    (eI : ∀ k, xI (ix3 0 k 0) = V c main_v0 (ix3 (⟨eb P (s.val * 51 + t.val), eb_lt P _⟩ : Fin 125) k 0))
    (eR : ∀ k l, xR (ix2 k l) = V c main_arg2 (ix2 (edgeOf P s.val t.val k) l))
    (eM : ∀ k l, xM (ix2 k l) = V c main_arg1 (ix2 (edgeOf P s.val t.val k) l))
    (eW : ∀ k l, xW (ix2 k l) = V c main_arg4 (ix2 k l)) (a : Fin 10112) (j : Fin 128) :
    laneStep (F := Ideal) (word (F := Ideal) (a0.1 1) off hoff) (word (F := Ideal) (a0.1 2) off hoff) xI xR xM xW acc (ix2 a j)
      = (acc (ix2 a j) : EReal) + chunkSum q P (edgeVal V c j) a.val (s.val * 51 + t.val) := by
  have e1 : word (F := Ideal) (a0.1 1) off hoff = BitVec.ofNat 32 (qt q P (s.val * 51 + t.val)) :=
    (word_at (F := Ideal) (a0.1 1) off hoff s t h).trans (hT.til s t)
  have e2 : word (F := Ideal) (a0.1 2) off hoff = BitVec.ofNat 32 (if Valid P (s.val * 51 + t.val) then 1 else 0) :=
    (word_at (F := Ideal) (a0.1 2) off hoff s t h).trans (hT.val s t)
  rw [e1, e2]
  refine (laneStep_at _ (qt_lt hq _) _ (fun k => q (eb P (s.val * 51 + t.val) * 2560 + k.val)) (fun _ => hq _) xI
    (fun k => (eI k).trans (hI _ k)) xR xM xW acc a j).trans ?_
  unfold chunkSum blockSum
  congr 1
  refine if_congr Iff.rfl (Finset.sum_congr rfl fun k _ => if_congr Iff.rfl ?_ rfl) rfl
  have hk : eb P (s.val * 51 + t.val) * 2560 + k.val < 320000 := (edgeOf P s.val t.val k).isLt
  unfold edgeVal
  rw [dif_pos hk]
  unfold edges edge
  rw [eM]
  congr 1
  exact Finset.sum_congr rfl fun i _ => by rw [eR, eW]

/-- A point adds its four chunks to the accumulator it started from. -/
theorem step_chunks (t : Fin grid0.N) (acc : Vec Ideal S10112x128 .f32) (a : Fin 10112) (j : Fin 128) :
    stepAt V a0 c t acc (ix2 a j) = (initStep (F := Ideal) (grid0.coords t) acc (ix2 a j) : EReal)
      + chunkSum q P (edgeVal V c j) a.val (0 * 51 + t.val) + chunkSum q P (edgeVal V c j) a.val (1 * 51 + t.val)
      + chunkSum q P (edgeVal V c j) a.val (2 * 51 + t.val) + chunkSum q P (edgeVal V c j) a.val (3 * 51 + t.val) := by
  have hi := fun k => ids_blk V a0 hT c t k
  have hr := fun k l => rbf_blk V a0 hT c t k l
  have hm := fun k l => msg_blk V a0 hT c t k l
  have hw := fun k l => proj_blk V a0 c t k l
  unfold stepAt pointStep
  rw [lane_chunk V a0 c hT hq hI 3 t _ (k0_off13_inb _) (lane_off t).2.2.2 _ _ _ _ _ (fun k => (hi k).2.2.2)
      (fun k l => (hr k l).2.2.2) (fun k l => (hm k l).2.2.2) hw,
    lane_chunk V a0 c hT hq hI 2 t _ (k0_off10_inb _) (lane_off t).2.2.1 _ _ _ _ _ (fun k => (hi k).2.2.1)
      (fun k l => (hr k l).2.2.1) (fun k l => (hm k l).2.2.1) hw,
    lane_chunk V a0 c hT hq hI 1 t _ (k0_off7_inb _) (lane_off t).2.1 _ _ _ _ _ (fun k => (hi k).2.1)
      (fun k l => (hr k l).2.1) (fun k l => (hm k l).2.1) hw,
    lane_chunk V a0 c hT hq hI 0 t _ (k0_off1_inb _) (lane_off t).1 _ _ _ _ _ (fun k => (hi k).1)
      (fun k l => (hr k l).1) (fun k l => (hm k l).1) hw]
  rfl

omit hT hq hI in
/-- The zeroed accumulator. -/
theorem pay1_at (a : Fin 10112) (j : Fin 128) : (k0_pay1 (F := Ideal) (ix2 a j) : EReal) = 0 := by
  pointwise [k0_pay1]

/-- Before point `n` the accumulator holds the chunks of the points before. -/
theorem acc_chunks (a : Fin 10112) (j : Fin 128) : ∀ n, n ≤ 51 → (accAt V a0 c n (ix2 a j) : EReal)
    = ∑ t ∈ Finset.range n, (chunkSum q P (edgeVal V c j) a.val (0 * 51 + t) + chunkSum q P (edgeVal V c j) a.val (1 * 51 + t)
      + chunkSum q P (edgeVal V c j) a.val (2 * 51 + t) + chunkSum q P (edgeVal V c j) a.val (3 * 51 + t)) := by
  intro n
  induction n with
  | zero => exact fun _ => pay1_at a j
  | succ n ih =>
    intro hn
    have hN : n < grid0.N := hn
    have h1 := accAt_succ V a0 c (⟨n, hN⟩ : Fin grid0.N)
    have h2 : (initStep (F := Ideal) (grid0.coords ⟨n, hN⟩) (accAt V a0 c n) (ix2 a j) : EReal) = accAt V a0 c n (ix2 a j) := by
      unfold initStep
      split
      · next h =>
        obtain rfl : n = 0 := (cond1_iff ⟨n, hN⟩).1 h
        rfl
      · rfl
    rw [show accAt V a0 c (n + 1) = _ from h1, step_chunks V a0 c hT hq hI, h2, ih (by omega), Finset.sum_range_succ]
    simp only [add_assoc]

/-- After the last point the accumulator holds, for each atom, the edge values gathered there. -/
theorem acc_final (hm : Monotone q) (hp : Pts q P) (a : Fin 10112) (j : Fin 128) :
    (accAt V a0 c 51 (ix2 a j) : EReal) = gathered q (edges V c) a.val j := by
  rw [acc_chunks V a0 c hT hq hI a j 51 le_rfl]
  have h := chunks_sum hm hp hq (edgeVal V c j) a.val
  have e : (204 : ℕ) = 51 + 51 + 51 + 51 := rfl
  rw [e, Finset.sum_range_add, Finset.sum_range_add, Finset.sum_range_add] at h
  rw [Finset.sum_add_distrib, Finset.sum_add_distrib, Finset.sum_add_distrib]
  simp only [Nat.zero_mul, Nat.zero_add]
  refine h.trans ?_
  unfold gathered
  refine Finset.sum_congr rfl fun e _ => if_congr Iff.rfl ?_ rfl
  unfold edgeVal
  rw [dif_pos e.isLt]

/-- So does the array the accumulator is written back to. -/
theorem arr_final (hm : Monotone q) (hp : Pts q P) (a : Fin 10112) (j : Fin 128) :
    ((dat0 V a0 c).arrAt 13 (cfg0 a0).N (ix2 a j) : EReal) = gathered q (edges V c) a.val j := by
  rw [← acc_final V a0 c hT hq hI hm hp a j]
  have hlast : (50 : ℕ) < grid0.N := by decide
  have h := (dat0 V a0 c).arrAt_eq_of_after_last 13 ⟨50, hlast⟩
    ⟨(flush0_13 a0 _).2 rfl, fun t ht => Fin.ext (by have := (flush0_13 a0 t).1 ht; have e : grid0.N = 51 := rfl; show t.val = 50; omega),
      fun b => by fin_cases b <;> exact ⟨rfl, rfl⟩⟩ (accAt V a0 c 51) (fun _ => rfl)
  exact congrFun h _

end Cert.KernelIdeal.Run
-- ==== Proof.Ideal.Layers.lean ====
module

public import proofs.«01_k».proof.Proof.Ideal.Region1
public import proofs.«01_k».proof.Proof.Row
public import Idealize.ShloMosaic.Lib.Pointwise
public import Idealize.ShloMosaic.Lib.Pipeline.ValueKit

@[expose] public section

set_option maxRecDepth 16384

/-! What the second kernel leaves: on every row of its first operand, all the layers. -/

noncomputable section

namespace Cert.KernelIdeal.Run

open Cert.KernelIdeal Cert.KernelIdeal.Gen
open Idealize.ShloMosaic Idealize.ShloMosaic.Pipeline
open Idealize.ShloMosaic.TcCoe
open Cert.Row

/-- A matrix by its coordinates. -/
abbrev mat {R C : ℕ} (x : (⟨2, ![R, C]⟩ : Shape).Idx → EReal) (k : Fin R) (j : Fin C) : EReal := x (ix2 k j)

/-- The dense layer and the first residual layer, on a row of the block. -/
theorem pay2_row (x : Vec Ideal S1264x128 .f32) (w1 wa wb : Vec Ideal S128x128 .f32) (a : Fin 1264) (j : Fin 128) :
    (k1_pay2 x w1 wa wb (ix2 a j) : EReal) = resid (dense (mat x a) (mat w1)) (mat wa) (mat wb) j := by
  pointwise [k1_pay2]
  rfl

/-- The second residual layer's correction, on a row of the block. -/
theorem pay3_row (x : Vec Ideal S1264x128 .f32) (w1 wa wb wc wd : Vec Ideal S128x128 .f32) (a : Fin 1264) (j : Fin 128) :
    (k1_pay3 x w1 wa wb wc wd (ix2 a j) : EReal)
      = dense (dense (resid (dense (mat x a) (mat w1)) (mat wa) (mat wb)) (mat wc)) (mat wd) j := by
  have h : mat (k1_pay2 x w1 wa wb) a = resid (dense (mat x a) (mat w1)) (mat wa) (mat wb) :=
    funext fun j => pay2_row x w1 wa wb a j
  rw [← h]
  unfold k1_pay3
  generalize k1_pay2 x w1 wa wb = y
  pointwise
  rfl

/-- The block the second kernel computes, on a row. -/
theorem mlpBlock_row (x : Vec Ideal S1264x128 .f32) (w1 wa wb wc wd : Vec Ideal S128x128 .f32) (a : Fin 1264) (j : Fin 128) :
    (mlpBlock x w1 wa wb wc wd (ix2 a j) : EReal) = layers (mat x a) (mat w1) (mat wa) (mat wb) (mat wc) (mat wd) j := by
  unfold mlpBlock layers
  rw [show resid (resid (dense (mat x a) (mat w1)) (mat wa) (mat wb)) (mat wc) (mat wd) j
      = (resid (dense (mat x a) (mat w1)) (mat wa) (mat wb) j
        + dense (dense (resid (dense (mat x a) (mat w1)) (mat wa) (mat wb)) (mat wc)) (mat wd) j)
        * Ideal.ofBits .f32 0x3F3504F3#32 from rfl, ← pay3_row, ← pay2_row]
  generalize k1_pay2 x w1 wa wb = y
  generalize k1_pay3 x w1 wa wb wc wd = z
  pointwise [k1_pay1]

variable (V : Dev nD → Valuation τ sig (Elt Ideal)) (c : Dev nD)

/-- The second kernel's row blocks, numbered by the point. -/
theorem index1 : ∀ t : Fin grid1.N, cc1_transform_0 (grid1.coords t) = ![t.val, 0] ∧ cc1_transform_6 (grid1.coords t) = ![t.val, 0] := by
  decide +kernel

/-- The block of rows a point reads. -/
theorem row_blk (t : Fin grid1.N) (k : Fin 1264) (l : Fin 128) (h : t.val * 1264 + k.val < 10112) :
    blk1 V c 0 t (ix2 k l) = V c main_v39 (ix2 (⟨t.val * 1264 + k.val, h⟩ : Fin 10112) l) := by
  refine congrArg (V c main_v39) (funext fun a => Fin.ext ?_)
  have hi := (index1 t).1
  fin_cases a
  · show cc1_transform_0 (grid1.coords t) 0 * 1264 + 1 * k.val = t.val * 1264 + k.val
    rw [hi, Nat.one_mul]; rfl
  · show cc1_transform_0 (grid1.coords t) 1 * 128 + 1 * l.val = l.val
    rw [hi, Nat.one_mul]; exact Nat.zero_add _

/-- An index of a square matrix read whole. -/
theorem whole_ix (x : S128x128.Idx) (k l : Fin 128) (h0 : (x 0).val = 0 * 128 + 1 * k.val) (h1 : (x 1).val = 0 * 128 + 1 * l.val) :
    x = ix2 k l := by
  funext a
  apply Fin.ext
  fin_cases a
  · show (x 0).val = k.val; omega
  · show (x 1).val = l.val; omega

/-- The result of the second kernel as an array. -/
def layered : S10112x128.Idx → EReal := fun i =>
  layers (mat (V c main_v39) (i 0)) (mat (V c main_v41)) (mat (V c main_arg6)) (mat (V c main_arg7)) (mat (V c main_arg8))
    (mat (V c main_arg9)) (i 1)

/-- What the second kernel leaves in its result array. -/
theorem arr1_layered : (dat1 V c).arrAt 6 cfg1.N = layered V c := by
  refine (dat1 V c).arrAt_eq_of_covers 6 (layered V c) (by decide +kernel) fun t _ y => ?_
  have hy0 : (y 0).val < 1264 := (y 0).isLt
  have ht : t.val < 8 := t.isLt
  have hi := (index1 t).2
  have hlt : t.val * 1264 + (y 0).val < 10112 := by omega
  have he : (((cfg1.win 6).blk t).view.emb y : S10112x128.Idx) = ix2 (⟨t.val * 1264 + (y 0).val, hlt⟩ : Fin 10112) (y 1) := by
    funext a
    apply Fin.ext
    fin_cases a
    · show cc1_transform_6 (grid1.coords t) 0 * 1264 + 1 * (y 0).val = t.val * 1264 + (y 0).val
      rw [hi, Nat.one_mul]; rfl
    · show cc1_transform_6 (grid1.coords t) 1 * 128 + 1 * (y 1).val = (y 1).val
      rw [hi, Nat.one_mul]; exact Nat.zero_add _
  rw [he]
  have hy : (y : S1264x128.Idx) = ix2 (y 0) (y 1) := eq_ix2 (n0 := 1264) (n1 := 128) y
  refine (congrArg (mlpBlock (F := Ideal) (blk1 V c 0 t) (blk1 V c 1 t) (blk1 V c 2 t) (blk1 V c 3 t) (blk1 V c 4 t) (blk1 V c 5 t)) hy).trans ?_
  refine (mlpBlock_row _ _ _ _ _ _ (y 0) (y 1)).trans ?_
  have e0 : mat (blk1 V c 0 t) (y 0) = mat (V c main_v39) (⟨t.val * 1264 + (y 0).val, hlt⟩ : Fin 10112) :=
    funext fun l => row_blk V c t (y 0) l hlt
  have e1 : mat (blk1 V c 1 t) = mat (V c main_v41) := funext fun k => funext fun l => congrArg (V c main_v41) (whole_ix _ k l rfl rfl)
  have e2 : mat (blk1 V c 2 t) = mat (V c main_arg6) := funext fun k => funext fun l => congrArg (V c main_arg6) (whole_ix _ k l rfl rfl)
  have e3 : mat (blk1 V c 3 t) = mat (V c main_arg7) := funext fun k => funext fun l => congrArg (V c main_arg7) (whole_ix _ k l rfl rfl)
  have e4 : mat (blk1 V c 4 t) = mat (V c main_arg8) := funext fun k => funext fun l => congrArg (V c main_arg8) (whole_ix _ k l rfl rfl)
  have e5 : mat (blk1 V c 5 t) = mat (V c main_arg9) := funext fun k => funext fun l => congrArg (V c main_arg9) (whole_ix _ k l rfl rfl)
  rw [e0, e1, e2, e3, e4, e5]
  rfl

end Cert.KernelIdeal.Run
-- ==== Proof.Ideal.Result.lean ====
module

public import proofs.«01_k».proof.Proof.Ideal.Gather
public import proofs.«01_k».proof.Proof.Ideal.Layers
public import proofs.«01_k».proof.Proof.Ideal.Frame
public import proofs.«01_k».proof.Proof.Ideal.Tables
public import Idealize.ShloMosaic.Lib.StableHlo.Run

@[expose] public section

set_option maxRecDepth 16384

/-! The kernel's result at an element: the layers on the scaled row of gathered edge values. -/

noncomputable section

namespace Cert.KernelIdeal.Run

open Cert.KernelIdeal Cert.KernelIdeal.Gen
open Idealize.ShloMosaic Idealize.ShloMosaic.Pipeline
open Idealize.ShloMosaic.TcCoe Idealize.ShloMosaic.StableHlo
open Cert.Row Cert.Words

variable {m : (ℓ : Loc nD τ sig) → Buf (Elt Ideal) ℓ} {q : ℕ → ℕ}

/-- An array no stretch before the first kernel writes is as the launch left it. -/
theorem V7_kept (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) :
    V7 m c r = V0 m c r :=
  (V7_of m c r h6).trans <| (V6_of m c r h5).trans <| (V5_of m c r h4).trans <| (V4_of m c r h3).trans <|
    (V3_of m c r h2).trans <| (V2_of m c r h1).trans (V1_of m c r h0)

/-- The ids' array as the first kernel takes it: 125 blocks of 2560 words. -/
theorem V7_v0 (c : Dev nD) : (V7 m c main_v0 : S125x2560x1.Idx → BitVec 32)
    = shapeCast S125x2560x1 (m ((c.tc : Thread nD τ).loc main_arg3) : S320000.Idx → BitVec 32) shapeCasts_S320000_S125x2560x1 := by
  refine ((V7_of m c main_v0 (by decide)).trans <| (V6_of m c main_v0 (by decide)).trans <| (V5_of m c main_v0 (by decide)).trans <|
    (V4_of m c main_v0 (by decide)).trans <| (V3_of m c main_v0 (by decide)).trans (V2_of m c main_v0 (by decide))).trans ?_
  simp only [V1, hostOps0, StableHlo.TRef.unary, StableHlo.TRef.binary, StableHlo.TRef.toBuf, StableHlo.TRef.ofBuf, cast_eq]
  after_results_simp <;> rfl

/-- The ids, block by block. -/
theorem ids_at (hi : Ids (m (d0, Proc.devRef .tc main_arg3)) q) : IdsAt (V7 m) d0 q := by
  intro e k
  have hw := hi.word ⟨e.val * 2560 + k.val, by have := e.isLt; have := k.isLt; omega⟩
  refine (congrFun (V7_v0 d0) _).trans (Eq.trans ?_ hw)
  exact shapeCast_apply _ _ _ _ (by
    rw [Shape.rowMajor_val_three]
    refine (Shape.rowMajor_val_one (d := ![320000]) _).trans ?_
    show e.val * 2560 + k.val = (e.val * 2560 + k.val) * 1 + 0
    omega)

/-- What the second kernel reads of the arguments is what the launch left. -/
theorem V9_kept (h : Good m) (c : Dev nD) (r : Ref sig .tc) (hr : r ∈ ([main_arg6, main_arg7, main_arg8, main_arg9] : List (Ref sig .tc))) :
    V9 m (outsA h) c r = V0 m c r := by
  have H : ∀ r ∈ ([main_arg6, main_arg7, main_arg8, main_arg9] : List (Ref sig .tc)), r ∉ hostOps1_W ∧ r ∉ ([main_v39] : List (Ref sig .tc))
      ∧ r ∉ hostOps0_W ∧ r ∉ hostOps0_1_W ∧ r ∉ hostOps0_2_W ∧ r ∉ hostOps0_3_W ∧ r ∉ hostOps0_4_W ∧ r ∉ hostOps0_5_W ∧ r ∉ hostOps0_6_W := by
    decide
  obtain ⟨h9, h8, h0, h1, h2, h3, h4, h5, h6⟩ := H r hr
  exact (V9_of m _ c r h9).trans ((V8_of m _ c r h8).trans (V7_kept c r h0 h1 h2 h3 h4 h5 h6))

/-- The second kernel's rows are what the first kernel leaves. -/
theorem V9_v39 (h : Good m) (c : Dev nD) : V9 m (outsA h) c main_v39 = out0 h c := by
  refine (V9_of m _ c main_v39 (by decide)).trans ?_
  show Function.update (V7 m c) main_v39 (outsA h 8 main_v39 c) main_v39 = _
  rw [Function.update_self, outsA_v39]

/-- The second kernel's first matrix: the dense layer's, scaled. -/
theorem V9_v41 (h : Good m) (c : Dev nD) : @Eq (FVec Ideal S128x128 .f32) (V9 m (outsA h) c main_v41)
    (mulf (m ((c.tc : Thread nD τ).loc main_arg5) : FVec Ideal S128x128 .f32) (broadcastInDim S128x128 ![] bcast_S_S128x128 (m ((c.tc : Thread nD τ).loc main_arg10) : FVec Ideal S_ .f32))) := by
  have e5 : V8 m (outsA h) c main_arg5 = V0 m c main_arg5 :=
    (V8_of m _ c main_arg5 (by decide)).trans (V7_kept c _ (by decide) (by decide) (by decide) (by decide) (by decide) (by decide) (by decide))
  have e10 : V8 m (outsA h) c main_arg10 = V0 m c main_arg10 :=
    (V8_of m _ c main_arg10 (by decide)).trans (V7_kept c _ (by decide) (by decide) (by decide) (by decide) (by decide) (by decide) (by decide))
  have : @Eq (FVec Ideal S128x128 .f32) (V9 m (outsA h) c main_v41)
      (mulf (V8 m (outsA h) c main_arg5 : FVec Ideal S128x128 .f32)
        (broadcastInDim S128x128 ![] bcast_S_S128x128 (V8 m (outsA h) c main_arg10 : FVec Ideal S_ .f32))) := by
    show StableHlo.after hostOps1 (V8 m (outsA h) c) main_v41 = _
    generalize V8 m (outsA h) c = W
    simp only [hostOps1, StableHlo.TRef.unary, StableHlo.TRef.binary, StableHlo.TRef.toBuf, StableHlo.TRef.ofBuf, cast_eq]
    after_results_simp <;> rfl
  rw [this, e5, e10]

/-- The program's result: the second kernel's, the rows past the last one cut off. -/
theorem V11_v43 (h : Good m) (c : Dev nD) : (V11 m (outs h) c main_v43 : FVec Ideal S10000x128 .f32)
    = extractStridedSlice S10000x128 ![0, 0] (out1 h c : FVec Ideal S10112x128 .f32) slices_S10112x128_S10000x128_0_0 := by
  have e : V10 m (outs h) c main_v42 = out1 h c := by
    show Function.update (V9 m (outs h) c) main_v42 (outs h 10 main_v42 c) main_v42 = _
    rw [Function.update_self, outs_v42]
  rw [← e]
  show StableHlo.after hostOps2 (V10 m (outs h) c) main_v43 = _
  generalize V10 m (outs h) c = W
  simp only [hostOps2, StableHlo.TRef.unary, StableHlo.TRef.binary, StableHlo.TRef.toBuf, StableHlo.TRef.ofBuf, cast_eq]
  after_results_simp <;> rfl

/-- The edges' values as the first kernel takes them are those of the launch's arguments. -/
theorem edges_args (c : Dev nD) : edges (V7 m) c
    = edge (mat (m ((c.tc : Thread nD τ).loc main_arg1))) (mat (m ((c.tc : Thread nD τ).loc main_arg2)))
        (mat (m ((c.tc : Thread nD τ).loc main_arg4))) := by
  have e1 : V7 m c main_arg1 = V0 m c main_arg1 :=
    V7_kept c _ (by decide) (by decide) (by decide) (by decide) (by decide) (by decide) (by decide)
  have e2 : V7 m c main_arg2 = V0 m c main_arg2 :=
    V7_kept c _ (by decide) (by decide) (by decide) (by decide) (by decide) (by decide) (by decide)
  have e4 : V7 m c main_arg4 = V0 m c main_arg4 :=
    V7_kept c _ (by decide) (by decide) (by decide) (by decide) (by decide) (by decide) (by decide)
  unfold edges
  rw [e1, e2, e4]

/-- The host's tables are the schedule's. -/
theorem told_of (hi : Ids (m (d0, Proc.devRef .tc main_arg3)) q) : ∃ P, Cert.Sched.Pts q P ∧ Told q P (tables m) := by
  obtain ⟨P, hP, hT⟩ := tables_at hi.toRng
  refine ⟨P, hP, ⟨fun s i => ?_, fun s i => ?_, fun s i => ?_⟩⟩ <;> rw [ix2_eq_valueIdx]
  · exact (hT s i).1
  · exact (hT s i).2.1
  · exact (hT s i).2.2

/-- The kernel's result on a row: the layers on the row's gathered and scaled edge values. -/
theorem result_row (hi : Ids (m (d0, Proc.devRef .tc main_arg3)) q) (a : Fin 10000) (j : Fin 128) :
    (V11 m (outs (good_of hi.toRng)) d0 main_v43 : S10000x128.Idx → EReal) (ix2 a j)
      = layers (fun k => gathered q (edge (mat (m ((d0.tc : Thread nD τ).loc main_arg1))) (mat (m ((d0.tc : Thread nD τ).loc main_arg2)))
            (mat (m ((d0.tc : Thread nD τ).loc main_arg4)))) a.val k * (m ((d0.tc : Thread nD τ).loc main_arg10) : S_.Idx → EReal) ValueIdx.ix0)
          (mat (m ((d0.tc : Thread nD τ).loc main_arg5))) (mat (m ((d0.tc : Thread nD τ).loc main_arg6)))
          (mat (m ((d0.tc : Thread nD τ).loc main_arg7))) (mat (m ((d0.tc : Thread nD τ).loc main_arg8)))
          (mat (m ((d0.tc : Thread nD τ).loc main_arg9))) j := by
  obtain ⟨P, hP, told⟩ := told_of hi
  have ha : a.val < 10112 := Nat.lt_of_lt_of_le a.isLt (by decide)
  have hrow : mat (V9 m (outsA (good_of hi.toRng)) d0 main_v39) (⟨a.val, ha⟩ : Fin 10112) = gathered q (edges (V7 m) d0) a.val := by
    rw [V9_v39]
    exact funext fun k => arr_final (V7 m) (adm0 (good_of hi.toRng)) d0 told hi.lt (ids_at hi) hi.mono hP ⟨a.val, ha⟩ k
  have hw : mat (V9 m (outsA (good_of hi.toRng)) d0 main_v41)
      = fun k j => mat (m ((d0.tc : Thread nD τ).loc main_arg5)) k j * (m ((d0.tc : Thread nD τ).loc main_arg10) : S_.Idx → EReal) ValueIdx.ix0 := by
    rw [V9_v41]
    funext k j
    exact congrArg (fun z : EReal => mat (m ((d0.tc : Thread nD τ).loc main_arg5)) k j * z)
      (congrArg (m ((d0.tc : Thread nD τ).loc main_arg10) : S_.Idx → EReal) (funext fun b => b.elim0))
  have hs : (V11 m (outs (good_of hi.toRng)) d0 main_v43 : S10000x128.Idx → EReal) (ix2 a j)
      = layered (V9 m (outsA (good_of hi.toRng))) d0 (ix2 (⟨a.val, ha⟩ : Fin 10112) j) := by
    refine (congrFun (V11_v43 (good_of hi.toRng) d0) (ix2 a j)).trans ?_
    refine Eq.trans ?_ (congrFun (arr1_layered (V9 m (outsA (good_of hi.toRng))) d0) _)
    refine congrArg (out1 (good_of hi.toRng) d0) (funext fun b => Fin.ext ?_)
    fin_cases b
    · exact Nat.zero_add _
    · exact Nat.zero_add _
  rw [hs, layers_scaled, ← edges_args]
  show layers (mat (V9 m (outsA (good_of hi.toRng)) d0 main_v39) (⟨a.val, ha⟩ : Fin 10112)) (mat (V9 m (outsA (good_of hi.toRng)) d0 main_v41)) _ _ _ _ j = _
  rw [hrow, hw, V9_kept (good_of hi.toRng) d0 main_arg6 (by decide), V9_kept (good_of hi.toRng) d0 main_arg7 (by decide),
    V9_kept (good_of hi.toRng) d0 main_arg8 (by decide), V9_kept (good_of hi.toRng) d0 main_arg9 (by decide)]

end Cert.KernelIdeal.Run
-- ==== Proof.Reference.lean ====
module

public import proofs.«01_k».proof.Proof.Gen.ReferenceIdeal.Run
public import proofs.«01_k».proof.Proof.Row
public import proofs.«01_k».proof.Proof.Words
public import Idealize.ShloMosaic.Lib.Pointwise
public import Idealize.ShloMosaic.Lib.Routing.OpsPair

@[expose] public section

set_option maxRecDepth 16384

/-! What the reference computes at an element: the layers on the scaled row of gathered edge values. -/

noncomputable section

namespace Cert.ReferenceIdeal.Value

open Cert.ReferenceIdeal Cert.ReferenceIdeal.Gen
open Idealize.ShloMosaic hiding ix0 ix1 ix2 ix3 eq_ix2
open Idealize.ShloMosaic.ValueIdx
open Idealize.ShloMosaic.TcCoe
open Idealize.ShloMosaic.Routing (shape0 shape1 shape2)
open Cert.Row Cert.Words

/-- The segment sum's dimension numbers. -/
abbrev segDims := scatter_S10000x128_S320000x1_S320000x128_1_0_0_1

/-- The row an update starts in: its index word, as a signed number. -/
theorem seg_row (idx : IVec S320000x1 32) (e : Fin 320000) (l : Fin 128) :
    segDims.start (ix2 e l) idx 0 = (idx (ix2 e (0 : Fin 1))).toInt := by
  unfold ScatterDims.start
  rw [dif_pos (show (0 : Fin 2) ∈ segDims.scatterDimsToOperandDims from List.mem_singleton.2 rfl)]
  refine congrArg (fun i => (idx i).toInt) (funext fun b => Fin.ext ?_)
  match b with
  | ⟨0, _⟩ => rfl
  | ⟨1, _⟩ => rfl

/-- An update row of the segment sum lands in the row its index word names, in the same column. -/
theorem lands_row (idx : IVec S320000x1 32) (e : Fin 320000) (l : Fin 128) (r : Fin 10000) (j : Fin 128) :
    segDims.resultIdx? (ix2 e l) idx = some (ix2 r j) ↔ (idx (ix2 e (0 : Fin 1))).toInt = (r.val : Int) ∧ l = j := by
  rw [Routing.resultIdx?_ix2 segDims (ix2 e l) idx r j, seg_row,
    show segDims.window (ix2 e l) 0 = 0 from rfl, show segDims.window (ix2 e l) 1 = l.val from rfl,
    show segDims.start (ix2 e l) idx 1 = 0 from rfl]
  constructor
  · rintro ⟨h, h'⟩
    exact ⟨by omega, Fin.ext (by omega)⟩
  · rintro ⟨h, rfl⟩
    exact ⟨by omega, by omega⟩

/-- The segment sum of an array of rows, by index words that are the numbers `q`. -/
theorem seg_sum (q : ℕ → ℕ) (hq : ∀ e, q e < 10000) (idx : IVec S320000x1 32)
    (hidx : ∀ e : Fin 320000, idx (ix2 e (0 : Fin 1)) = BitVec.ofNat 32 (q e.val)) (z : Vec Ideal S10000x128 .f32)
    (hz : ∀ i, (z i : EReal) = 0) (x : Vec Ideal S320000x128 .f32) (a : Fin 10000) (j : Fin 128) :
    (Host.scatterAdd (F := Ideal) (φ := .f32) segDims z idx x : S10000x128.Idx → EReal) (ix2 a j) = gathered q (fun e j => x (ix2 e j)) a.val j := by
  show (z (ix2 a j) : EReal) + ∑ i ∈ Finset.univ.filter (fun i => segDims.resultIdx? i idx = some (ix2 a j)), (x i : EReal) = _
  rw [hz, zero_add, Finset.sum_filter]
  have hw : ∀ e : Fin 320000, (idx (ix2 e (0 : Fin 1))).toInt = (q e.val : Int) := fun e => by
    rw [hidx e]
    have := hq e.val
    exact StableHlo.Predicate.toInt_ofNat_small _ (by omega)
  unfold gathered
  rw [ValueIdx.sum_idx2]
  refine Finset.sum_congr rfl fun e _ => ?_
  simp only [lands_row, hw, Nat.cast_inj]
  by_cases h : q e.val = a.val
  · simp [h]
  · simp [h]

/-- A constant over the whole activation array. -/
abbrev full (b : BitVec 32) : FVec Ideal S10000x128 .f32 := broadcastInDim S10000x128 ![] bcast_S_S10000x128 (constant S_ .f32 b)

/-- A matrix product of the reference's layers. -/
abbrev rtimes (x : FVec Ideal S10000x128 .f32) (w : FVec Ideal S128x128 .f32) : FVec Ideal S10000x128 .f32 :=
  Host.dotGeneral dot_S10000x128_S128x128_S10000x128_1_0_0_1_n_n none x w

/-- The reference's dense layer. -/
def rdense (x : FVec Ideal S10000x128 .f32) (w : FVec Ideal S128x128 .f32) : FVec Ideal S10000x128 .f32 :=
  mulf (mulf (rtimes x w) (Host.divf (full 0x3F800000#32) (addf (full 0x3F800000#32) (Host.exp (Host.negf (rtimes x w)))))) (full 0x3FD55555#32)

/-- The reference's residual layer. -/
def rresid (x : FVec Ideal S10000x128 .f32) (w v : FVec Ideal S128x128 .f32) : FVec Ideal S10000x128 .f32 :=
  mulf (addf x (rdense (rdense x w) v)) (full 0x3F3504F3#32)

/-- A row of an array. -/
abbrev row {R C : ℕ} (x : (⟨2, ![R, C]⟩ : Shape).Idx → EReal) (k : Fin R) (j : Fin C) : EReal := x (ix2 k j)

/-- The reference's dense layer on a row. -/
theorem rdense_row (x : FVec Ideal S10000x128 .f32) (w : FVec Ideal S128x128 .f32) (a : Fin 10000) :
    row (rdense x w) a = dense (row x a) (row w) := by
  funext j
  show rdense x w (Idealize.ShloMosaic.ix2 a j) = _
  pointwise [rdense]
  show times (row x a) (row w) j * Ideal.logistic (times (row x a) (row w) j) * _ = Ideal.logistic (times (row x a) (row w) j) * times (row x a) (row w) j * _
  rw [mul_comm (times (row x a) (row w) j)]

/-- The reference's residual layer on a row. -/
theorem rresid_row (x : FVec Ideal S10000x128 .f32) (w v : FVec Ideal S128x128 .f32) (a : Fin 10000) :
    row (rresid x w v) a = resid (row x a) (row w) (row v) := by
  funext j
  unfold resid
  rw [← rdense_row, ← rdense_row]
  rfl

/-- The edges' values in the reference. -/
def redge (x : FVec Ideal S320000x128 .f32) (r : FVec Ideal S320000x16 .f32) (w : FVec Ideal S16x128 .f32) : FVec Ideal S320000x128 .f32 :=
  mulf x (Host.dotGeneral dot_S320000x16_S16x128_S320000x128_1_0_0_1_n_n none r w)

/-- An edge's value. -/
theorem redge_at (x : FVec Ideal S320000x128 .f32) (r : FVec Ideal S320000x16 .f32) (w : FVec Ideal S16x128 .f32) :
    row (redge x r w) = edge (row x) (row r) (row w) := by
  funext e j
  show redge x r w (Idealize.ShloMosaic.ix2 e j) = _
  pointwise [redge]
  rfl

/-- The segment sum of the edges' values, scaled. -/
def rsum (x : FVec Ideal S320000x128 .f32) (r : FVec Ideal S320000x16 .f32) (ids : IVec S320000 32) (w : FVec Ideal S16x128 .f32)
    (s : FVec Ideal S_ .f32) : FVec Ideal S10000x128 .f32 :=
  mulf (Host.scatterAdd segDims (full 0x00000000#32) (broadcastInDim S320000x1 ![0] bcast_S320000_S320000x1_0 ids) (redge x r w))
    (broadcastInDim S10000x128 ![] bcast_S_S10000x128 s)

/-- The scaled sum on a row: the edges of the row's atom gathered, and the scale. -/
theorem rsum_row (x : FVec Ideal S320000x128 .f32) (r : FVec Ideal S320000x16 .f32) (ids : IVec S320000 32) (w : FVec Ideal S16x128 .f32)
    (s : FVec Ideal S_ .f32) (q : ℕ → ℕ) (hi : Ids ids q) (a : Fin 10000) :
    row (rsum x r ids w s) a = fun k => gathered q (edge (row x) (row r) (row w)) a.val k * s ix0 := by
  funext k
  have h := seg_sum q hi.lt (broadcastInDim S320000x1 ![0] bcast_S320000_S320000x1_0 ids)
    (fun e => (congrArg ids (funext fun b => by fin_cases b; rfl)).trans (hi.word e)) (full 0x00000000#32) (fun i => Ideal.ofBits_zero_f32) (redge x r w) a k
  rw [← redge_at]
  refine congrArg₂ (fun p q : EReal => p * q) h ?_
  exact congrArg s (funext fun b => b.elim0)

variable (m : (ℓ : Loc nD τ sig) → Buf (Elt Ideal) ℓ) (c : Dev nD)

set_option maxRecDepth 200000 in
/-- The reference's result, layer by layer. -/
theorem res_layers : @Eq (FVec Ideal S10000x128 .f32) (res_main_v32 m c)
    (rresid (rresid (rdense (rsum (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg10)))
        (m ((c.tc : Thread nD τ).loc main_arg5))) (m ((c.tc : Thread nD τ).loc main_arg6))
        (m ((c.tc : Thread nD τ).loc main_arg7))) (m ((c.tc : Thread nD τ).loc main_arg8)) (m ((c.tc : Thread nD τ).loc main_arg9))) := by
  unfold res_main_v32 rresid rdense rsum redge
  rfl

/-- The reference's result on a row: the layers on the row's gathered and scaled edge values. -/
theorem res_row (q : ℕ → ℕ) (hi : Ids (m ((c.tc : Thread nD τ).loc main_arg3)) q) (a : Fin 10000) :
    row (res_main_v32 m c) a
      = layers (fun k => gathered q (edge (row (m ((c.tc : Thread nD τ).loc main_arg1))) (row (m ((c.tc : Thread nD τ).loc main_arg2)))
            (row (m ((c.tc : Thread nD τ).loc main_arg4)))) a.val k * m ((c.tc : Thread nD τ).loc main_arg10) ix0)
          (row (m ((c.tc : Thread nD τ).loc main_arg5))) (row (m ((c.tc : Thread nD τ).loc main_arg6)))
          (row (m ((c.tc : Thread nD τ).loc main_arg7))) (row (m ((c.tc : Thread nD τ).loc main_arg8))) (row (m ((c.tc : Thread nD τ).loc main_arg9))) := by
  unfold layers
  rw [← rsum_row _ _ _ _ _ q hi, ← rdense_row, ← rresid_row, ← rresid_row]
  exact congrArg (fun z : FVec Ideal S10000x128 .f32 => row z a) (res_layers m c)

end Cert.ReferenceIdeal.Value
-- ==== Proof.lean ====
module

public import proofs.«01_k».proof.Defs
public import proofs.«01_k».proof.Proof.Pre
public import proofs.«01_k».proof.Proof.Ideal.Frame
public import proofs.«01_k».proof.Proof.Bits.Frame
public import proofs.«01_k».proof.Proof.Ideal.Result
public import proofs.«01_k».proof.Proof.Reference
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_sorted_ids
public import Idealize.ShloMosaic.Adequacy
public import Idealize.ShloMosaic.Init

@[expose] public section

noncomputable section

namespace Cert.Proof

open Idealize.ShloMosaic Idealize.SL.Sem Cert.Words

/-- The ids of the printed kernel's memory, where they are those of atoms. -/
theorem ids_kernel {m : (ℓ : Loc Cert.Kernel.nD Cert.Kernel.τ Cert.Kernel.sig) → Buf (Elt Bits) ℓ} (h : Cert.Pre_Kernel m) :
    ∃ q : ℕ → ℕ, Rng (m (Cert.Kernel.Run.d0, Proc.devRef .tc Cert.Kernel.main_arg3)) q :=
  Cert.Pre_atom_ids.rng_of _ _ _ _ _ _ _ _ _ _ _ (h Cert.Kernel.Run.d0)

/-- The ids of the idealized kernel's memory, where they are those of atoms. -/
theorem ids_ideal {m : (ℓ : Loc Cert.KernelIdeal.nD Cert.KernelIdeal.τ Cert.KernelIdeal.sig) → Buf (Elt Ideal) ℓ} (h : Cert.Pre_KernelIdeal m) :
    ∃ q : ℕ → ℕ, Rng (m (Cert.KernelIdeal.Run.d0, Proc.devRef .tc Cert.KernelIdeal.main_arg3)) q :=
  Cert.Pre_atom_ids.rng_of _ _ _ _ _ _ _ _ _ _ _ (h Cert.KernelIdeal.Run.d0)

/-- The ids of the idealized kernel's memory, where they are those of atoms in order. -/
theorem ids_sorted {m : (ℓ : Loc Cert.KernelIdeal.nD Cert.KernelIdeal.τ Cert.KernelIdeal.sig) → Buf (Elt Ideal) ℓ} (h : Cert.Pre_KernelIdeal_sorted_ids m) :
    ∃ q : ℕ → ℕ, Ids (m (Cert.KernelIdeal.Run.d0, Proc.devRef .tc Cert.KernelIdeal.main_arg3)) q :=
  Cert.Pre_sorted_ids.ids_of _ _ _ _ _ _ _ _ _ _ _ (h Cert.KernelIdeal.Run.d0)

/-- The printed kernel runs, keeps its arguments and ends with every counter at zero. -/
theorem frame_p : Cert.quiescent_Kernel := by
  intro m ρ hp
  obtain ⟨q, hi⟩ := ids_kernel hp
  refine (θ_run Cert.Kernel.defs _ _).mono (fun r h => ⟨fun c => ?_, h.2⟩) (Cert.Kernel.Run.run_kept hi ρ)
  exact List.forall_iff_forall_mem.2 (h.1 c).2

/-- The idealized kernel runs, keeps its arguments and ends with every counter at zero. -/
theorem frame_pi : Cert.quiescent_KernelIdeal := by
  intro m ρ hp
  obtain ⟨q, hi⟩ := ids_ideal hp
  refine (θ_run Cert.KernelIdeal.defs _ _).mono (fun r h => ⟨fun c => ?_, h.2⟩) (Cert.KernelIdeal.Run.run_kept hi ρ)
  exact List.forall_iff_forall_mem.2 (h.1 c).2

/-- The same of the idealized kernel, where the ids are also in order. -/
theorem frame_pi_sorted : Cert.quiescent_KernelIdeal_pre_sorted_ids := by
  intro m ρ hp
  obtain ⟨q, hi⟩ := ids_sorted hp
  refine (θ_run Cert.KernelIdeal.defs _ _).mono (fun r h => ⟨fun c => ?_, h.2⟩) (Cert.KernelIdeal.Run.run_kept hi.toRng ρ)
  exact List.forall_iff_forall_mem.2 (h.1 c).2

/-- The idealized reference runs, keeps its arguments; it has no counters. -/
theorem frame_ri : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run m ρ)

/-- The same under the value claim's precondition. -/
theorem frame_ri_sorted : Cert.quiescent_ReferenceIdeal_pre_sorted_ids := by
  intro m ρ _
  exact frame_ri m ρ trivial

/-- The idealized kernel and the idealized reference, from equal arguments, end with equal results: on every row both hold
    the layers on the row's gathered and scaled edge values. -/
theorem algebraic : Cert.algebraic_KernelIdeal_ReferenceIdeal_pre_sorted_ids := by
  intro m g m' g' hp hm
  obtain ⟨q, hi⟩ := ids_sorted hp
  refine ⟨fun c => Cert.KernelIdeal.Gen.V11 m (Cert.KernelIdeal.Run.outs (Cert.KernelIdeal.Run.good_of hi.toRng)) c (Proc.devRef .tc Cert.KernelIdeal.main_v43), ?_, ?_⟩
  · refine (θ_run Cert.KernelIdeal.defs _ _).mono (fun r h c => ⟨(h.1 c).1, ?_⟩) (Cert.KernelIdeal.Run.run_kept hi.toRng g)
    exact List.forall_iff_forall_mem.2 (h.1 c).2
  · refine (θ_run Cert.ReferenceIdeal.defs _ _).mono (fun r h c => ⟨(h c).1.trans ?_, (h c).2⟩) (Cert.ReferenceIdeal.Value.run m' g')
    obtain rfl : c = Cert.KernelIdeal.Run.d0 := Subsingleton.elim _ _
    obtain ⟨-, h1, h2, h3, h4, h5, h6, h7, h8, h9, h10⟩ := hm Cert.KernelIdeal.Run.d0
    have hi' : Ids (m' ((Cert.KernelIdeal.Run.d0.tc : Thread Cert.ReferenceIdeal.nD Cert.ReferenceIdeal.τ).loc Cert.ReferenceIdeal.main_arg3)) q := by
      rw [h3]; exact hi
    funext i
    have hix : i = ValueIdx.ix2 (n0 := 10000) (n1 := 128) (i 0) (i 1) := ValueIdx.eq_ix2 (n0 := 10000) (n1 := 128) i
    have hr := congrFun (Cert.ReferenceIdeal.Value.res_row m' Cert.KernelIdeal.Run.d0 q hi' (i 0)) (i 1)
    rw [h1, h2, h4, h5, h6, h7, h8, h9, h10] at hr
    rw [hix]
    exact hr.trans (Cert.KernelIdeal.Run.result_row hi (i 0) (i 1)).symm

/-- Every claim of the certificate. -/
theorem claim : Cert.Claim := ⟨Cert.Kernel.Gen.facts, Cert.KernelIdeal.Gen.facts, Cert.ReferenceIdeal.Gen.facts, Cert.Pre_atom_ids.facts, Cert.Pre_sorted_ids.Gen.facts,
  frame_p, frame_pi, frame_pi_sorted, frame_ri, frame_ri_sorted, trivial, algebraic⟩

end Cert.Proof

end
